-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024 : Shape := ⟨2, ![64, 1024]⟩
abbrev S64x4096x128 : Shape := ⟨3, ![64, 4096, 128]⟩
abbrev S1024x128 : Shape := ⟨2, ![1024, 128]⟩
abbrev S1024x1 : Shape := ⟨2, ![1024, 1]⟩
abbrev S1 : Shape := ⟨1, ![1]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x4096x128 : S_.BroadcastsInDim S64x4096x128 (![] : Fin 0 → Fin S64x4096x128.rank)
  reducesTo_S64x4096x128_S_d0_1_2 : S64x4096x128.ReducesTo [0, 1, 2] S_
  bcast_S_S1024x128 : S_.BroadcastsInDim S1024x128 (![] : Fin 0 → Fin S1024x128.rank)
  reducesTo_S1024x128_S_d0_1 : S1024x128.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x1024 .f32) (main_arg1 : FVec F S64x4096x128 .f32) (main_arg2 : FVec F S1024x128 .f32) (main_arg3 : FVec F S1024x1 .f32) (main_arg4 : FVec F S1 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S64x1024 : Shape := ⟨2, ![64, 1024]⟩
abbrev S64x4096x128 : Shape := ⟨3, ![64, 4096, 128]⟩
abbrev S1024x128 : Shape := ⟨2, ![1024, 128]⟩
abbrev S1024x1 : Shape := ⟨2, ![1024, 1]⟩
abbrev S1 : Shape := ⟨1, ![1]⟩
abbrev S_ : Shape := ⟨0, ![]⟩
abbrev S2 : Shape := ⟨1, ![2]⟩
abbrev S1x1 : Shape := ⟨2, ![1, 1]⟩
abbrev S64x4097 : Shape := ⟨2, ![64, 4097]⟩
abbrev S64x4096 : Shape := ⟨2, ![64, 4096]⟩
abbrev S64x1x4096 : Shape := ⟨3, ![64, 1, 4096]⟩
abbrev S64x1 : Shape := ⟨2, ![64, 1]⟩
abbrev S64x1x1 : Shape := ⟨3, ![64, 1, 1]⟩
abbrev S64x1x128 : Shape := ⟨3, ![64, 1, 128]⟩
abbrev S1x4096x128 : Shape := ⟨3, ![1, 4096, 128]⟩
abbrev S1x1x4096 : Shape := ⟨3, ![1, 1, 4096]⟩
abbrev S1x1x128 : Shape := ⟨3, ![1, 1, 128]⟩
abbrev S64x128 : Shape := ⟨2, ![64, 128]⟩
abbrev S1x128 : Shape := ⟨2, ![1, 128]⟩
abbrev S4096x128 : Shape := ⟨2, ![4096, 128]⟩
abbrev S1x4096 : Shape := ⟨2, ![1, 4096]⟩
abbrev S1x1x1 : Shape := ⟨3, ![1, 1, 1]⟩
abbrev S64 : Shape := ⟨1, ![64]⟩

abbrev nBuf : Space → Nat
  | .hbm => 298
  | .vmem => 15
  | .smem => 1
  | _ => 0

abbrev hbmTy0_0 (i : Nat) : BufTy := match i % 128 with
  | 0 => ⟨S64x1024, .f32⟩
  | 1 => ⟨S64x4096x128, .f32⟩
  | 2 => ⟨S1024x128, .f32⟩
  | 3 => ⟨S1024x1, .f32⟩
  | 4 => ⟨S1, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S64x4097, .i64⟩
  | 26 => ⟨S64x4097, .i64⟩
  | 27 => ⟨S_, .i64⟩
  | 28 => ⟨S64x4097, .i64⟩
  | 29 => ⟨S64x4097, .i64⟩
  | 30 => ⟨S_, .i64⟩
  | 31 => ⟨S64x4097, .i64⟩
  | 32 => ⟨S64x4097, .i64⟩
  | 33 => ⟨S64x4097, .i64⟩
  | 34 => ⟨S_, .i64⟩
  | 35 => ⟨S64x4097, .i64⟩
  | 36 => ⟨S64x4097, .i64⟩
  | 37 => ⟨S64x4097, .i32⟩
  | 38 => ⟨S64x4097, .i32⟩
  | 39 => ⟨S_, .i32⟩
  | 40 => ⟨S_, .i32⟩
  | 41 => ⟨S_, .i32⟩
  | 42 => ⟨S64x4097, .i32⟩
  | 43 => ⟨S64x4097, .i32⟩
  | 44 => ⟨S64x4097, .i32⟩
  | 45 => ⟨S64x4097, .i32⟩
  | 46 => ⟨S64x4097, .i32⟩
  | 47 => ⟨S_, .i32⟩
  | 48 => ⟨S64x4097, .i32⟩
  | 49 => ⟨S64x4097, .i32⟩
  | 50 => ⟨S_, .i32⟩
  | 51 => ⟨S64x4097, .i32⟩
  | 52 => ⟨S64x4097, .i32⟩
  | 53 => ⟨S64x4097, .i32⟩
  | 54 => ⟨S64x4097, .i32⟩
  | 55 => ⟨S64x4097, .i32⟩
  | 56 => ⟨S_, .i32⟩
  | 57 => ⟨S64x4097, .i32⟩
  | 58 => ⟨S64x4097, .i32⟩
  | 59 => ⟨S_, .i32⟩
  | 60 => ⟨S64x4097, .i32⟩
  | 61 => ⟨S64x4097, .i32⟩
  | 62 => ⟨S64x4097, .i32⟩
  | 63 => ⟨S64x4097, .i32⟩
  | 64 => ⟨S64x4097, .i32⟩
  | 65 => ⟨S_, .i32⟩
  | 66 => ⟨S64x4097, .i32⟩
  | 67 => ⟨S64x4097, .i32⟩
  | 68 => ⟨S_, .i32⟩
  | 69 => ⟨S64x4097, .i32⟩
  | 70 => ⟨S64x4097, .i32⟩
  | 71 => ⟨S64x4097, .i32⟩
  | 72 => ⟨S64x4097, .i32⟩
  | 73 => ⟨S64x4097, .i32⟩
  | 74 => ⟨S_, .i32⟩
  | 75 => ⟨S64x4097, .i32⟩
  | 76 => ⟨S64x4097, .i32⟩
  | 77 => ⟨S_, .i32⟩
  | 78 => ⟨S64x4097, .i32⟩
  | 79 => ⟨S64x4097, .i32⟩
  | 80 => ⟨S64x4097, .i32⟩
  | 81 => ⟨S64x4097, .i32⟩
  | 82 => ⟨S64x4097, .i32⟩
  | 83 => ⟨S64x4097, .i32⟩
  | 84 => ⟨S64x4097, .i32⟩
  | 85 => ⟨S64x4097, .i32⟩
  | 86 => ⟨S_, .i32⟩
  | 87 => ⟨S64x4097, .i32⟩
  | 88 => ⟨S64x4097, .i32⟩
  | 89 => ⟨S64x4097, .i32⟩
  | 90 => ⟨S_, .i32⟩
  | 91 => ⟨S64x4097, .i32⟩
  | 92 => ⟨S64x4097, .i32⟩
  | 93 => ⟨S_, .i32⟩
  | 94 => ⟨S64x4097, .i32⟩
  | 95 => ⟨S64x4097, .i32⟩
  | 96 => ⟨S64x4097, .i32⟩
  | 97 => ⟨S64x4097, .i32⟩
  | 98 => ⟨S64x4097, .i32⟩
  | 99 => ⟨S_, .i32⟩
  | 100 => ⟨S64x4097, .i32⟩
  | 101 => ⟨S64x4097, .i32⟩
  | 102 => ⟨S_, .i32⟩
  | 103 => ⟨S64x4097, .i32⟩
  | 104 => ⟨S64x4097, .i32⟩
  | 105 => ⟨S64x4097, .i32⟩
  | 106 => ⟨S64x4097, .i32⟩
  | 107 => ⟨S64x4097, .i32⟩
  | 108 => ⟨S_, .i32⟩
  | 109 => ⟨S64x4097, .i32⟩
  | 110 => ⟨S64x4097, .i32⟩
  | 111 => ⟨S_, .i32⟩
  | 112 => ⟨S64x4097, .i32⟩
  | 113 => ⟨S64x4097, .i32⟩
  | 114 => ⟨S64x4097, .i32⟩
  | 115 => ⟨S64x4097, .i32⟩
  | 116 => ⟨S64x4097, .i32⟩
  | 117 => ⟨S_, .i32⟩
  | 118 => ⟨S64x4097, .i32⟩
  | 119 => ⟨S64x4097, .i32⟩
  | 120 => ⟨S_, .i32⟩
  | 121 => ⟨S64x4097, .i32⟩
  | 122 => ⟨S64x4097, .i32⟩
  | 123 => ⟨S64x4097, .i32⟩
  | 124 => ⟨S64x4097, .i32⟩
  | 125 => ⟨S64x4097, .i32⟩
  | 126 => ⟨S64x4097, .i32⟩
  | 127 => ⟨S64x4097, .i32⟩
  | _ => ⟨S64x1024, .f32⟩

abbrev hbmTy0_1 (i : Nat) : BufTy := match i % 128 with
  | 0 => ⟨S64x4097, .i32⟩
  | 1 => ⟨S_, .i32⟩
  | 2 => ⟨S64x4097, .i32⟩
  | 3 => ⟨S64x4097, .i32⟩
  | 4 => ⟨S64x4097, .i32⟩
  | 5 => ⟨S_, .i32⟩
  | 6 => ⟨S64x4097, .i32⟩
  | 7 => ⟨S64x4097, .i32⟩
  | 8 => ⟨S_, .i32⟩
  | 9 => ⟨S64x4097, .i32⟩
  | 10 => ⟨S64x4097, .i32⟩
  | 11 => ⟨S64x4097, .i32⟩
  | 12 => ⟨S64x4097, .i32⟩
  | 13 => ⟨S64x4097, .i32⟩
  | 14 => ⟨S_, .i32⟩
  | 15 => ⟨S64x4097, .i32⟩
  | 16 => ⟨S64x4097, .i32⟩
  | 17 => ⟨S_, .i32⟩
  | 18 => ⟨S64x4097, .i32⟩
  | 19 => ⟨S64x4097, .i32⟩
  | 20 => ⟨S64x4097, .i32⟩
  | 21 => ⟨S64x4097, .i32⟩
  | 22 => ⟨S64x4097, .i32⟩
  | 23 => ⟨S_, .i32⟩
  | 24 => ⟨S64x4097, .i32⟩
  | 25 => ⟨S64x4097, .i32⟩
  | 26 => ⟨S_, .i32⟩
  | 27 => ⟨S64x4097, .i32⟩
  | 28 => ⟨S64x4097, .i32⟩
  | 29 => ⟨S64x4097, .i32⟩
  | 30 => ⟨S64x4097, .i32⟩
  | 31 => ⟨S64x4097, .i32⟩
  | 32 => ⟨S_, .i32⟩
  | 33 => ⟨S64x4097, .i32⟩
  | 34 => ⟨S64x4097, .i32⟩
  | 35 => ⟨S_, .i32⟩
  | 36 => ⟨S64x4097, .i32⟩
  | 37 => ⟨S64x4097, .i32⟩
  | 38 => ⟨S64x4097, .i32⟩
  | 39 => ⟨S64x4097, .i32⟩
  | 40 => ⟨S64x4097, .i32⟩
  | 41 => ⟨S64x4097, .i32⟩
  | 42 => ⟨S64x4097, .i32⟩
  | 43 => ⟨S64x4097, .i32⟩
  | 44 => ⟨S_, .i32⟩
  | 45 => ⟨S64x4097, .i32⟩
  | 46 => ⟨S64x4097, .i32⟩
  | 47 => ⟨S64x4097, .i32⟩
  | 48 => ⟨S_, .i32⟩
  | 49 => ⟨S64x4097, .i32⟩
  | 50 => ⟨S64x4097, .i32⟩
  | 51 => ⟨S_, .i32⟩
  | 52 => ⟨S64x4097, .i32⟩
  | 53 => ⟨S64x4097, .i32⟩
  | 54 => ⟨S64x4097, .i32⟩
  | 55 => ⟨S64x4097, .i32⟩
  | 56 => ⟨S64x4097, .i32⟩
  | 57 => ⟨S_, .i32⟩
  | 58 => ⟨S64x4097, .i32⟩
  | 59 => ⟨S64x4097, .i32⟩
  | 60 => ⟨S_, .i32⟩
  | 61 => ⟨S64x4097, .i32⟩
  | 62 => ⟨S64x4097, .i32⟩
  | 63 => ⟨S64x4097, .i32⟩
  | 64 => ⟨S64x4097, .i32⟩
  | 65 => ⟨S64x4097, .i32⟩
  | 66 => ⟨S_, .i32⟩
  | 67 => ⟨S64x4097, .i32⟩
  | 68 => ⟨S64x4097, .i32⟩
  | 69 => ⟨S_, .i32⟩
  | 70 => ⟨S64x4097, .i32⟩
  | 71 => ⟨S64x4097, .i32⟩
  | 72 => ⟨S64x4097, .i32⟩
  | 73 => ⟨S64x4097, .i32⟩
  | 74 => ⟨S64x4097, .i32⟩
  | 75 => ⟨S_, .i32⟩
  | 76 => ⟨S64x4097, .i32⟩
  | 77 => ⟨S64x4097, .i32⟩
  | 78 => ⟨S_, .i32⟩
  | 79 => ⟨S64x4097, .i32⟩
  | 80 => ⟨S64x4097, .i32⟩
  | 81 => ⟨S64x4097, .i32⟩
  | 82 => ⟨S64x4097, .i32⟩
  | 83 => ⟨S64x4097, .i32⟩
  | 84 => ⟨S64x4097, .i32⟩
  | 85 => ⟨S64x4097, .i32⟩
  | 86 => ⟨S64x4097, .i32⟩
  | 87 => ⟨S_, .i32⟩
  | 88 => ⟨S64x4097, .i32⟩
  | 89 => ⟨S64x4097, .i32⟩
  | 90 => ⟨S64x4097, .i32⟩
  | 91 => ⟨S_, .i32⟩
  | 92 => ⟨S64x4097, .i32⟩
  | 93 => ⟨S64x4097, .i32⟩
  | 94 => ⟨S_, .i32⟩
  | 95 => ⟨S64x4097, .i32⟩
  | 96 => ⟨S64x4097, .i32⟩
  | 97 => ⟨S64x4097, .i32⟩
  | 98 => ⟨S64x4097, .i32⟩
  | 99 => ⟨S64x4097, .i32⟩
  | 100 => ⟨S_, .i32⟩
  | 101 => ⟨S64x4097, .i32⟩
  | 102 => ⟨S64x4097, .i32⟩
  | 103 => ⟨S_, .i32⟩
  | 104 => ⟨S64x4097, .i32⟩
  | 105 => ⟨S64x4097, .i32⟩
  | 106 => ⟨S64x4097, .i32⟩
  | 107 => ⟨S64x4097, .i32⟩
  | 108 => ⟨S64x4097, .i32⟩
  | 109 => ⟨S_, .i32⟩
  | 110 => ⟨S64x4097, .i32⟩
  | 111 => ⟨S64x4097, .i32⟩
  | 112 => ⟨S_, .i32⟩
  | 113 => ⟨S64x4097, .i32⟩
  | 114 => ⟨S64x4097, .i32⟩
  | 115 => ⟨S64x4097, .i32⟩
  | 116 => ⟨S64x4097, .i32⟩
  | 117 => ⟨S64x4097, .i32⟩
  | 118 => ⟨S_, .i32⟩
  | 119 => ⟨S64x4097, .i32⟩
  | 120 => ⟨S64x4097, .i32⟩
  | 121 => ⟨S_, .i32⟩
  | 122 => ⟨S64x4097, .i32⟩
  | 123 => ⟨S64x4097, .i32⟩
  | 124 => ⟨S64x4097, .i32⟩
  | 125 => ⟨S64x4097, .i32⟩
  | 126 => ⟨S64x4097, .i32⟩
  | 127 => ⟨S64x4097, .i32⟩
  | _ => ⟨S64x1024, .f32⟩

abbrev hbmTy0_2 (i : Nat) : BufTy := match i % 128 with
  | 0 => ⟨S64x4097, .i32⟩
  | 1 => ⟨S64x4097, .i32⟩
  | 2 => ⟨S_, .i32⟩
  | 3 => ⟨S64x4097, .i32⟩
  | 4 => ⟨S64x4097, .i32⟩
  | 5 => ⟨S64x4097, .i32⟩
  | 6 => ⟨S_, .i32⟩
  | 7 => ⟨S64x4097, .i32⟩
  | 8 => ⟨S64x4097, .i32⟩
  | 9 => ⟨S_, .i32⟩
  | 10 => ⟨S64x4097, .i32⟩
  | 11 => ⟨S64x4097, .i32⟩
  | 12 => ⟨S64x4097, .f32⟩
  | 13 => ⟨S_, .f32⟩
  | 14 => ⟨S64x4097, .f32⟩
  | 15 => ⟨S64x4097, .f32⟩
  | 16 => ⟨S1x1, .f32⟩
  | 17 => ⟨S64x4097, .f32⟩
  | 18 => ⟨S64x4097, .f32⟩
  | 19 => ⟨S64x4097, .f32⟩
  | 20 => ⟨S64x4097, .f32⟩
  | 21 => ⟨S64x4097, .f32⟩
  | 22 => ⟨S64x4097, .f32⟩
  | 23 => ⟨S64x4097, .f32⟩
  | 24 => ⟨S64x4097, .f32⟩
  | 25 => ⟨S64x4097, .f32⟩
  | 26 => ⟨S64x4097, .f32⟩
  | 27 => ⟨S64x4096, .f32⟩
  | 28 => ⟨S64x1x4096, .f32⟩
  | 29 => ⟨S64x1, .f32⟩
  | 30 => ⟨S64x1x1, .f32⟩
  | 31 => ⟨S64x1x128, .f32⟩
  | 32 => ⟨S_, .i32⟩
  | 33 => ⟨S_, .f32⟩
  | 34 => ⟨S1024x128, .f32⟩
  | 35 => ⟨S1x1, .f32⟩
  | 36 => ⟨S64x1x128, .f32⟩
  | 37 => ⟨S64x1x128, .i32⟩
  | 38 => ⟨S64x1x1, .f32⟩
  | 39 => ⟨S64, .f32⟩
  | 40 => ⟨S64x1x1, .i32⟩
  | 41 => ⟨S64, .i32⟩
  | _ => ⟨S64x1024, .f32⟩

abbrev hbmTy (i : Nat) : BufTy := match i / 128 with
  | 0 => hbmTy0_0 i
  | 1 => hbmTy0_1 i
  | 2 => hbmTy0_2 i
  | _ => ⟨S64x1024, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S1024x128, .f32⟩
  | .local _ .vmem, ⟨2, _⟩ => ⟨S1024x128, .f32⟩
  | .local _ .vmem, ⟨3, _⟩ => ⟨S1x4096x128, .f32⟩
  | .local _ .vmem, ⟨4, _⟩ => ⟨S1x4096x128, .f32⟩
  | .local _ .vmem, ⟨5, _⟩ => ⟨S1x1x4096, .f32⟩
  | .local _ .vmem, ⟨6, _⟩ => ⟨S1x1x4096, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .i32⟩
  | .local _ .vmem, ⟨12, _⟩ => ⟨S1x1x128, .i32⟩
  | .local _ .vmem, ⟨13, _⟩ => ⟨S64x128, .f32⟩
  | .local _ .vmem, ⟨14, _⟩ => ⟨S64x128, .f32⟩
  | .local _ .smem, ⟨0, _⟩ => ⟨S1x1, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v7 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev main_v14 : Ref sig .tc := ⟨.hbm, 285, rfl⟩
abbrev main_v15 : Ref sig .tc := ⟨.hbm, 286, rfl⟩
abbrev main_v16 : Ref sig .tc := ⟨.hbm, 287, rfl⟩
abbrev main_c_3 : Ref sig .tc := ⟨.hbm, 288, rfl⟩
abbrev main_call1_v0 : Ref sig .tc := ⟨.hbm, 289, rfl⟩
abbrev main_v17 : Ref sig .tc := ⟨.hbm, 290, rfl⟩
abbrev main_v18 : Ref sig .tc := ⟨.hbm, 291, rfl⟩
abbrev main_v19_0 : Ref sig .tc := ⟨.hbm, 292, rfl⟩
abbrev main_v19_1 : Ref sig .tc := ⟨.hbm, 293, rfl⟩
abbrev main_v20 : Ref sig .tc := ⟨.hbm, 294, rfl⟩
abbrev main_v21 : Ref sig .tc := ⟨.hbm, 295, rfl⟩
abbrev main_v22 : Ref sig .tc := ⟨.hbm, 296, rfl⟩
abbrev main_v23 : Ref sig .tc := ⟨.hbm, 297, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v10 : Index := Scalar.indexCast arg0
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x1024 : Shape := ⟨2, ![64, 1024]⟩
abbrev S64x4096x128 : Shape := ⟨3, ![64, 4096, 128]⟩
abbrev S1024x128 : Shape := ⟨2, ![1024, 128]⟩
abbrev S1024x1 : Shape := ⟨2, ![1024, 1]⟩
abbrev S1 : Shape := ⟨1, ![1]⟩
abbrev S64x128 : Shape := ⟨2, ![64, 128]⟩
abbrev S64x4096 : Shape := ⟨2, ![64, 4096]⟩
abbrev S64x1 : Shape := ⟨2, ![64, 1]⟩
abbrev S1x1 : Shape := ⟨2, ![1, 1]⟩
abbrev S64x4097 : Shape := ⟨2, ![64, 4097]⟩
abbrev S_ : Shape := ⟨0, ![]⟩
abbrev S64 : Shape := ⟨1, ![64]⟩
abbrev S2 : Shape := ⟨1, ![2]⟩
abbrev S64x1x1 : Shape := ⟨3, ![64, 1, 1]⟩
abbrev S1x1x1 : Shape := ⟨3, ![1, 1, 1]⟩

abbrev nBuf : Space → Nat
  | .hbm => 338
  | .vmem => 0
  | .smem => 0
  | _ => 0

abbrev hbmTy0_0 (i : Nat) : BufTy := match i % 128 with
  | 0 => ⟨S64x1024, .f32⟩
  | 1 => ⟨S64x4096x128, .f32⟩
  | 2 => ⟨S1024x128, .f32⟩
  | 3 => ⟨S1024x1, .f32⟩
  | 4 => ⟨S1, .f32⟩
  | 5 => ⟨S64x128, .f32⟩
  | 6 => ⟨S64x4096, .f32⟩
  | 7 => ⟨S64x1, .f32⟩
  | 8 => ⟨S1x1, .f32⟩
  | 9 => ⟨S64x1, .f32⟩
  | 10 => ⟨S64x1, .f32⟩
  | 11 => ⟨S64x4097, .f32⟩
  | 12 => ⟨S_, .f32⟩
  | 13 => ⟨S64x4097, .f32⟩
  | 14 => ⟨S64x4097, .f32⟩
  | 15 => ⟨S_, .f32⟩
  | 16 => ⟨S64, .f32⟩
  | 17 => ⟨S_, .f32⟩
  | 18 => ⟨S64, .f32⟩
  | 19 => ⟨S64, .f32⟩
  | 20 => ⟨S64x1, .f32⟩
  | 21 => ⟨S64x4097, .f32⟩
  | 22 => ⟨S64x4097, .f32⟩
  | 23 => ⟨S64x4097, .f32⟩
  | 24 => ⟨S_, .f32⟩
  | 25 => ⟨S64, .f32⟩
  | 26 => ⟨S64x1, .f32⟩
  | 27 => ⟨S64x1, .f32⟩
  | 28 => ⟨S64x4097, .f32⟩
  | 29 => ⟨S64x4097, .f32⟩
  | 30 => ⟨S_, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S_, .i32⟩
  | 38 => ⟨S1, .i32⟩
  | 39 => ⟨S2, .i32⟩
  | 40 => ⟨S_, .f32⟩
  | 41 => ⟨S_, .f32⟩
  | 42 => ⟨S_, .f32⟩
  | 43 => ⟨S_, .f32⟩
  | 44 => ⟨S1x1, .f32⟩
  | 45 => ⟨S1x1, .f32⟩
  | 46 => ⟨S1, .i32⟩
  | 47 => ⟨S_, .i32⟩
  | 48 => ⟨S1, .i32⟩
  | 49 => ⟨S_, .i32⟩
  | 50 => ⟨S64x4097, .i64⟩
  | 51 => ⟨S64x4097, .i64⟩
  | 52 => ⟨S_, .i64⟩
  | 53 => ⟨S64x4097, .i64⟩
  | 54 => ⟨S64x4097, .i64⟩
  | 55 => ⟨S_, .i64⟩
  | 56 => ⟨S64x4097, .i64⟩
  | 57 => ⟨S64x4097, .i64⟩
  | 58 => ⟨S64x4097, .i64⟩
  | 59 => ⟨S_, .i64⟩
  | 60 => ⟨S64x4097, .i64⟩
  | 61 => ⟨S64x4097, .i64⟩
  | 62 => ⟨S64x4097, .i32⟩
  | 63 => ⟨S64x4097, .i32⟩
  | 64 => ⟨S_, .i32⟩
  | 65 => ⟨S_, .i32⟩
  | 66 => ⟨S_, .i32⟩
  | 67 => ⟨S64x4097, .i32⟩
  | 68 => ⟨S64x4097, .i32⟩
  | 69 => ⟨S64x4097, .i32⟩
  | 70 => ⟨S64x4097, .i32⟩
  | 71 => ⟨S64x4097, .i32⟩
  | 72 => ⟨S_, .i32⟩
  | 73 => ⟨S64x4097, .i32⟩
  | 74 => ⟨S64x4097, .i32⟩
  | 75 => ⟨S_, .i32⟩
  | 76 => ⟨S64x4097, .i32⟩
  | 77 => ⟨S64x4097, .i32⟩
  | 78 => ⟨S64x4097, .i32⟩
  | 79 => ⟨S64x4097, .i32⟩
  | 80 => ⟨S64x4097, .i32⟩
  | 81 => ⟨S_, .i32⟩
  | 82 => ⟨S64x4097, .i32⟩
  | 83 => ⟨S64x4097, .i32⟩
  | 84 => ⟨S_, .i32⟩
  | 85 => ⟨S64x4097, .i32⟩
  | 86 => ⟨S64x4097, .i32⟩
  | 87 => ⟨S64x4097, .i32⟩
  | 88 => ⟨S64x4097, .i32⟩
  | 89 => ⟨S64x4097, .i32⟩
  | 90 => ⟨S_, .i32⟩
  | 91 => ⟨S64x4097, .i32⟩
  | 92 => ⟨S64x4097, .i32⟩
  | 93 => ⟨S_, .i32⟩
  | 94 => ⟨S64x4097, .i32⟩
  | 95 => ⟨S64x4097, .i32⟩
  | 96 => ⟨S64x4097, .i32⟩
  | 97 => ⟨S64x4097, .i32⟩
  | 98 => ⟨S64x4097, .i32⟩
  | 99 => ⟨S_, .i32⟩
  | 100 => ⟨S64x4097, .i32⟩
  | 101 => ⟨S64x4097, .i32⟩
  | 102 => ⟨S_, .i32⟩
  | 103 => ⟨S64x4097, .i32⟩
  | 104 => ⟨S64x4097, .i32⟩
  | 105 => ⟨S64x4097, .i32⟩
  | 106 => ⟨S64x4097, .i32⟩
  | 107 => ⟨S64x4097, .i32⟩
  | 108 => ⟨S64x4097, .i32⟩
  | 109 => ⟨S64x4097, .i32⟩
  | 110 => ⟨S64x4097, .i32⟩
  | 111 => ⟨S_, .i32⟩
  | 112 => ⟨S64x4097, .i32⟩
  | 113 => ⟨S64x4097, .i32⟩
  | 114 => ⟨S64x4097, .i32⟩
  | 115 => ⟨S_, .i32⟩
  | 116 => ⟨S64x4097, .i32⟩
  | 117 => ⟨S64x4097, .i32⟩
  | 118 => ⟨S_, .i32⟩
  | 119 => ⟨S64x4097, .i32⟩
  | 120 => ⟨S64x4097, .i32⟩
  | 121 => ⟨S64x4097, .i32⟩
  | 122 => ⟨S64x4097, .i32⟩
  | 123 => ⟨S64x4097, .i32⟩
  | 124 => ⟨S_, .i32⟩
  | 125 => ⟨S64x4097, .i32⟩
  | 126 => ⟨S64x4097, .i32⟩
  | 127 => ⟨S_, .i32⟩
  | _ => ⟨S64x1024, .f32⟩

abbrev hbmTy0_1 (i : Nat) : BufTy := match i % 128 with
  | 0 => ⟨S64x4097, .i32⟩
  | 1 => ⟨S64x4097, .i32⟩
  | 2 => ⟨S64x4097, .i32⟩
  | 3 => ⟨S64x4097, .i32⟩
  | 4 => ⟨S64x4097, .i32⟩
  | 5 => ⟨S_, .i32⟩
  | 6 => ⟨S64x4097, .i32⟩
  | 7 => ⟨S64x4097, .i32⟩
  | 8 => ⟨S_, .i32⟩
  | 9 => ⟨S64x4097, .i32⟩
  | 10 => ⟨S64x4097, .i32⟩
  | 11 => ⟨S64x4097, .i32⟩
  | 12 => ⟨S64x4097, .i32⟩
  | 13 => ⟨S64x4097, .i32⟩
  | 14 => ⟨S_, .i32⟩
  | 15 => ⟨S64x4097, .i32⟩
  | 16 => ⟨S64x4097, .i32⟩
  | 17 => ⟨S_, .i32⟩
  | 18 => ⟨S64x4097, .i32⟩
  | 19 => ⟨S64x4097, .i32⟩
  | 20 => ⟨S64x4097, .i32⟩
  | 21 => ⟨S64x4097, .i32⟩
  | 22 => ⟨S64x4097, .i32⟩
  | 23 => ⟨S64x4097, .i32⟩
  | 24 => ⟨S64x4097, .i32⟩
  | 25 => ⟨S64x4097, .i32⟩
  | 26 => ⟨S_, .i32⟩
  | 27 => ⟨S64x4097, .i32⟩
  | 28 => ⟨S64x4097, .i32⟩
  | 29 => ⟨S64x4097, .i32⟩
  | 30 => ⟨S_, .i32⟩
  | 31 => ⟨S64x4097, .i32⟩
  | 32 => ⟨S64x4097, .i32⟩
  | 33 => ⟨S_, .i32⟩
  | 34 => ⟨S64x4097, .i32⟩
  | 35 => ⟨S64x4097, .i32⟩
  | 36 => ⟨S64x4097, .i32⟩
  | 37 => ⟨S64x4097, .i32⟩
  | 38 => ⟨S64x4097, .i32⟩
  | 39 => ⟨S_, .i32⟩
  | 40 => ⟨S64x4097, .i32⟩
  | 41 => ⟨S64x4097, .i32⟩
  | 42 => ⟨S_, .i32⟩
  | 43 => ⟨S64x4097, .i32⟩
  | 44 => ⟨S64x4097, .i32⟩
  | 45 => ⟨S64x4097, .i32⟩
  | 46 => ⟨S64x4097, .i32⟩
  | 47 => ⟨S64x4097, .i32⟩
  | 48 => ⟨S_, .i32⟩
  | 49 => ⟨S64x4097, .i32⟩
  | 50 => ⟨S64x4097, .i32⟩
  | 51 => ⟨S_, .i32⟩
  | 52 => ⟨S64x4097, .i32⟩
  | 53 => ⟨S64x4097, .i32⟩
  | 54 => ⟨S64x4097, .i32⟩
  | 55 => ⟨S64x4097, .i32⟩
  | 56 => ⟨S64x4097, .i32⟩
  | 57 => ⟨S_, .i32⟩
  | 58 => ⟨S64x4097, .i32⟩
  | 59 => ⟨S64x4097, .i32⟩
  | 60 => ⟨S_, .i32⟩
  | 61 => ⟨S64x4097, .i32⟩
  | 62 => ⟨S64x4097, .i32⟩
  | 63 => ⟨S64x4097, .i32⟩
  | 64 => ⟨S64x4097, .i32⟩
  | 65 => ⟨S64x4097, .i32⟩
  | 66 => ⟨S64x4097, .i32⟩
  | 67 => ⟨S64x4097, .i32⟩
  | 68 => ⟨S64x4097, .i32⟩
  | 69 => ⟨S_, .i32⟩
  | 70 => ⟨S64x4097, .i32⟩
  | 71 => ⟨S64x4097, .i32⟩
  | 72 => ⟨S64x4097, .i32⟩
  | 73 => ⟨S_, .i32⟩
  | 74 => ⟨S64x4097, .i32⟩
  | 75 => ⟨S64x4097, .i32⟩
  | 76 => ⟨S_, .i32⟩
  | 77 => ⟨S64x4097, .i32⟩
  | 78 => ⟨S64x4097, .i32⟩
  | 79 => ⟨S64x4097, .i32⟩
  | 80 => ⟨S64x4097, .i32⟩
  | 81 => ⟨S64x4097, .i32⟩
  | 82 => ⟨S_, .i32⟩
  | 83 => ⟨S64x4097, .i32⟩
  | 84 => ⟨S64x4097, .i32⟩
  | 85 => ⟨S_, .i32⟩
  | 86 => ⟨S64x4097, .i32⟩
  | 87 => ⟨S64x4097, .i32⟩
  | 88 => ⟨S64x4097, .i32⟩
  | 89 => ⟨S64x4097, .i32⟩
  | 90 => ⟨S64x4097, .i32⟩
  | 91 => ⟨S_, .i32⟩
  | 92 => ⟨S64x4097, .i32⟩
  | 93 => ⟨S64x4097, .i32⟩
  | 94 => ⟨S_, .i32⟩
  | 95 => ⟨S64x4097, .i32⟩
  | 96 => ⟨S64x4097, .i32⟩
  | 97 => ⟨S64x4097, .i32⟩
  | 98 => ⟨S64x4097, .i32⟩
  | 99 => ⟨S64x4097, .i32⟩
  | 100 => ⟨S_, .i32⟩
  | 101 => ⟨S64x4097, .i32⟩
  | 102 => ⟨S64x4097, .i32⟩
  | 103 => ⟨S_, .i32⟩
  | 104 => ⟨S64x4097, .i32⟩
  | 105 => ⟨S64x4097, .i32⟩
  | 106 => ⟨S64x4097, .i32⟩
  | 107 => ⟨S64x4097, .i32⟩
  | 108 => ⟨S64x4097, .i32⟩
  | 109 => ⟨S64x4097, .i32⟩
  | 110 => ⟨S64x4097, .i32⟩
  | 111 => ⟨S64x4097, .i32⟩
  | 112 => ⟨S_, .i32⟩
  | 113 => ⟨S64x4097, .i32⟩
  | 114 => ⟨S64x4097, .i32⟩
  | 115 => ⟨S64x4097, .i32⟩
  | 116 => ⟨S_, .i32⟩
  | 117 => ⟨S64x4097, .i32⟩
  | 118 => ⟨S64x4097, .i32⟩
  | 119 => ⟨S_, .i32⟩
  | 120 => ⟨S64x4097, .i32⟩
  | 121 => ⟨S64x4097, .i32⟩
  | 122 => ⟨S64x4097, .i32⟩
  | 123 => ⟨S64x4097, .i32⟩
  | 124 => ⟨S64x4097, .i32⟩
  | 125 => ⟨S_, .i32⟩
  | 126 => ⟨S64x4097, .i32⟩
  | 127 => ⟨S64x4097, .i32⟩
  | _ => ⟨S64x1024, .f32⟩

abbrev hbmTy0_2 (i : Nat) : BufTy := match i % 128 with
  | 0 => ⟨S_, .i32⟩
  | 1 => ⟨S64x4097, .i32⟩
  | 2 => ⟨S64x4097, .i32⟩
  | 3 => ⟨S64x4097, .i32⟩
  | 4 => ⟨S64x4097, .i32⟩
  | 5 => ⟨S64x4097, .i32⟩
  | 6 => ⟨S_, .i32⟩
  | 7 => ⟨S64x4097, .i32⟩
  | 8 => ⟨S64x4097, .i32⟩
  | 9 => ⟨S_, .i32⟩
  | 10 => ⟨S64x4097, .i32⟩
  | 11 => ⟨S64x4097, .i32⟩
  | 12 => ⟨S64x4097, .i32⟩
  | 13 => ⟨S64x4097, .i32⟩
  | 14 => ⟨S64x4097, .i32⟩
  | 15 => ⟨S_, .i32⟩
  | 16 => ⟨S64x4097, .i32⟩
  | 17 => ⟨S64x4097, .i32⟩
  | 18 => ⟨S_, .i32⟩
  | 19 => ⟨S64x4097, .i32⟩
  | 20 => ⟨S64x4097, .i32⟩
  | 21 => ⟨S64x4097, .i32⟩
  | 22 => ⟨S64x4097, .i32⟩
  | 23 => ⟨S64x4097, .i32⟩
  | 24 => ⟨S64x4097, .i32⟩
  | 25 => ⟨S64x4097, .i32⟩
  | 26 => ⟨S64x4097, .i32⟩
  | 27 => ⟨S_, .i32⟩
  | 28 => ⟨S64x4097, .i32⟩
  | 29 => ⟨S64x4097, .i32⟩
  | 30 => ⟨S64x4097, .i32⟩
  | 31 => ⟨S_, .i32⟩
  | 32 => ⟨S64x4097, .i32⟩
  | 33 => ⟨S64x4097, .i32⟩
  | 34 => ⟨S_, .i32⟩
  | 35 => ⟨S64x4097, .i32⟩
  | 36 => ⟨S64x4097, .i32⟩
  | 37 => ⟨S64x4097, .f32⟩
  | 38 => ⟨S_, .f32⟩
  | 39 => ⟨S64x4097, .f32⟩
  | 40 => ⟨S64x4097, .f32⟩
  | 41 => ⟨S1x1, .f32⟩
  | 42 => ⟨S64x4097, .f32⟩
  | 43 => ⟨S64x4097, .f32⟩
  | 44 => ⟨S64x4097, .f32⟩
  | 45 => ⟨S64x4097, .f32⟩
  | 46 => ⟨S64x4097, .f32⟩
  | 47 => ⟨S64x4097, .f32⟩
  | 48 => ⟨S64x4097, .f32⟩
  | 49 => ⟨S64x4097, .f32⟩
  | 50 => ⟨S64x4097, .f32⟩
  | 51 => ⟨S64x4097, .f32⟩
  | 52 => ⟨S64x4097, .f32⟩
  | 53 => ⟨S64x4097, .i32⟩
  | 54 => ⟨S_, .f32⟩
  | 55 => ⟨S_, .i32⟩
  | 56 => ⟨S64, .f32⟩
  | 57 => ⟨S64, .i32⟩
  | 58 => ⟨S64x1, .i32⟩
  | 59 => ⟨S_, .i32⟩
  | 60 => ⟨S64x1, .i32⟩
  | 61 => ⟨S64x1, .i1⟩
  | 62 => ⟨S_, .i32⟩
  | 63 => ⟨S64x1, .i32⟩
  | 64 => ⟨S64x1, .i32⟩
  | 65 => ⟨S64x1, .i32⟩
  | 66 => ⟨S64x1x1, .i32⟩
  | 67 => ⟨S1, .i32⟩
  | 68 => ⟨S_, .i32⟩
  | 69 => ⟨S64x1x1, .i32⟩
  | 70 => ⟨S64x1x1, .i1⟩
  | 71 => ⟨S1x1x1, .i32⟩
  | 72 => ⟨S64x1x1, .i32⟩
  | 73 => ⟨S64x1x1, .i1⟩
  | 74 => ⟨S64x1x1, .i1⟩
  | 75 => ⟨S_, .i1⟩
  | 76 => ⟨S64x1, .i1⟩
  | 77 => ⟨S64x1, .f32⟩
  | 78 => ⟨S_, .f32⟩
  | 79 => ⟨S64x1, .f32⟩
  | 80 => ⟨S64x1, .f32⟩
  | 81 => ⟨S64, .f32⟩
  | _ => ⟨S64x1024, .f32⟩

abbrev hbmTy (i : Nat) : BufTy := match i / 128 with
  | 0 => hbmTy0_0 i
  | 1 => hbmTy0_1 i
  | 2 => hbmTy0_2 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v9 : Ref sig .tc := ⟨.hbm, 29, rfl⟩
abbrev main_c : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_c : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_c_1 : Ref sig .tc := ⟨.hbm, 59, rfl⟩
abbrev main_call1_v15 : Ref sig .tc := ⟨.hbm, 60, rfl⟩
abbrev main_call1_v16 : Ref sig .tc := ⟨.hbm, 61, rfl⟩
abbrev main_call1_v17 : Ref sig .tc := ⟨.hbm, 62, rfl⟩
abbrev main_call1_v18 : Ref sig .tc := ⟨.hbm, 63, rfl⟩
abbrev main_call1_call0_v0 : Ref sig .tc := ⟨.hbm, 64, rfl⟩
abbrev main_call1_call0_c : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_c_0 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_c_1 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_call0_v12 : Ref sig .tc := ⟨.hbm, 79, rfl⟩
abbrev main_call1_call0_v13 : Ref sig .tc := ⟨.hbm, 80, rfl⟩
abbrev main_call1_call0_c_2 : Ref sig .tc := ⟨.hbm, 81, rfl⟩
abbrev main_call1_call0_v14 : Ref sig .tc := ⟨.hbm, 82, rfl⟩
abbrev main_call1_call0_v15 : Ref sig .tc := ⟨.hbm, 83, rfl⟩
abbrev main_call1_call0_c_3 : Ref sig .tc := ⟨.hbm, 84, rfl⟩
abbrev main_call1_call0_v16 : Ref sig .tc := ⟨.hbm, 85, rfl⟩
abbrev main_call1_call0_v17 : Ref sig .tc := ⟨.hbm, 86, rfl⟩
abbrev main_call1_call0_v18 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_c_4 : Ref sig .tc := ⟨.hbm, 90, rfl⟩
abbrev main_call1_call0_v21 : Ref sig .tc := ⟨.hbm, 91, rfl⟩
abbrev main_call1_call0_v22 : Ref sig .tc := ⟨.hbm, 92, rfl⟩
abbrev main_call1_call0_c_5 : Ref sig .tc := ⟨.hbm, 93, rfl⟩
abbrev main_call1_call0_v23 : Ref sig .tc := ⟨.hbm, 94, rfl⟩
abbrev main_call1_call0_v24 : Ref sig .tc := ⟨.hbm, 95, rfl⟩
abbrev main_call1_call0_v25 : Ref sig .tc := ⟨.hbm, 96, rfl⟩
abbrev main_call1_call0_v26 : Ref sig .tc := ⟨.hbm, 97, rfl⟩
abbrev main_call1_call0_v27 : Ref sig .tc := ⟨.hbm, 98, rfl⟩
abbrev main_call1_call0_c_6 : Ref sig .tc := ⟨.hbm, 99, rfl⟩
abbrev main_call1_call0_v28 : Ref sig .tc := ⟨.hbm, 100, rfl⟩
abbrev main_call1_call0_v29 : Ref sig .tc := ⟨.hbm, 101, rfl⟩
abbrev main_call1_call0_c_7 : Ref sig .tc := ⟨.hbm, 102, rfl⟩
abbrev main_call1_call0_v30 : Ref sig .tc := ⟨.hbm, 103, rfl⟩
abbrev main_call1_call0_v31 : Ref sig .tc := ⟨.hbm, 104, rfl⟩
abbrev main_call1_call0_v32 : Ref sig .tc := ⟨.hbm, 105, rfl⟩
abbrev main_call1_call0_v33 : Ref sig .tc := ⟨.hbm, 106, rfl⟩
abbrev main_call1_call0_v34 : Ref sig .tc := ⟨.hbm, 107, rfl⟩
abbrev main_call1_call0_v35 : Ref sig .tc := ⟨.hbm, 108, rfl⟩
abbrev main_call1_call0_v36 : Ref sig .tc := ⟨.hbm, 109, rfl⟩
abbrev main_call1_call0_v37 : Ref sig .tc := ⟨.hbm, 110, rfl⟩
abbrev main_call1_call0_c_8 : Ref sig .tc := ⟨.hbm, 111, rfl⟩
abbrev main_call1_call0_v38 : Ref sig .tc := ⟨.hbm, 112, rfl⟩
abbrev main_call1_call0_v39 : Ref sig .tc := ⟨.hbm, 113, rfl⟩
abbrev main_call1_call0_v40 : Ref sig .tc := ⟨.hbm, 114, rfl⟩
abbrev main_call1_call0_c_9 : Ref sig .tc := ⟨.hbm, 115, rfl⟩
abbrev main_call1_call0_v41 : Ref sig .tc := ⟨.hbm, 116, rfl⟩
abbrev main_call1_call0_v42 : Ref sig .tc := ⟨.hbm, 117, rfl⟩
abbrev main_call1_call0_c_10 : Ref sig .tc := ⟨.hbm, 118, rfl⟩
abbrev main_call1_call0_v43 : Ref sig .tc := ⟨.hbm, 119, rfl⟩
abbrev main_call1_call0_v44 : Ref sig .tc := ⟨.hbm, 120, rfl⟩
abbrev main_call1_call0_v45 : Ref sig .tc := ⟨.hbm, 121, rfl⟩
abbrev main_call1_call0_v46 : Ref sig .tc := ⟨.hbm, 122, rfl⟩
abbrev main_call1_call0_v47 : Ref sig .tc := ⟨.hbm, 123, rfl⟩
abbrev main_call1_call0_c_11 : Ref sig .tc := ⟨.hbm, 124, rfl⟩
abbrev main_call1_call0_v48 : Ref sig .tc := ⟨.hbm, 125, rfl⟩
abbrev main_call1_call0_v49 : Ref sig .tc := ⟨.hbm, 126, rfl⟩
abbrev main_call1_call0_c_12 : Ref sig .tc := ⟨.hbm, 127, rfl⟩
abbrev main_call1_call0_v50 : Ref sig .tc := ⟨.hbm, 128, rfl⟩
abbrev main_call1_call0_v51 : Ref sig .tc := ⟨.hbm, 129, rfl⟩
abbrev main_call1_call0_v52 : Ref sig .tc := ⟨.hbm, 130, rfl⟩
abbrev main_call1_call0_v53 : Ref sig .tc := ⟨.hbm, 131, rfl⟩
abbrev main_call1_call0_v54 : Ref sig .tc := ⟨.hbm, 132, rfl⟩
abbrev main_call1_call0_c_13 : Ref sig .tc := ⟨.hbm, 133, rfl⟩
abbrev main_call1_call0_v55 : Ref sig .tc := ⟨.hbm, 134, rfl⟩
abbrev main_call1_call0_v56 : Ref sig .tc := ⟨.hbm, 135, rfl⟩
abbrev main_call1_call0_c_14 : Ref sig .tc := ⟨.hbm, 136, rfl⟩
abbrev main_call1_call0_v57 : Ref sig .tc := ⟨.hbm, 137, rfl⟩
abbrev main_call1_call0_v58 : Ref sig .tc := ⟨.hbm, 138, rfl⟩
abbrev main_call1_call0_v59 : Ref sig .tc := ⟨.hbm, 139, rfl⟩
abbrev main_call1_call0_v60 : Ref sig .tc := ⟨.hbm, 140, rfl⟩
abbrev main_call1_call0_v61 : Ref sig .tc := ⟨.hbm, 141, rfl⟩
abbrev main_call1_call0_c_15 : Ref sig .tc := ⟨.hbm, 142, rfl⟩
abbrev main_call1_call0_v62 : Ref sig .tc := ⟨.hbm, 143, rfl⟩
abbrev main_call1_call0_v63 : Ref sig .tc := ⟨.hbm, 144, rfl⟩
abbrev main_call1_call0_c_16 : Ref sig .tc := ⟨.hbm, 145, rfl⟩
abbrev main_call1_call0_v64 : Ref sig .tc := ⟨.hbm, 146, rfl⟩
abbrev main_call1_call0_v65 : Ref sig .tc := ⟨.hbm, 147, rfl⟩
abbrev main_call1_call0_v66 : Ref sig .tc := ⟨.hbm, 148, rfl⟩
abbrev main_call1_call0_v67 : Ref sig .tc := ⟨.hbm, 149, rfl⟩
abbrev main_call1_call0_v68 : Ref sig .tc := ⟨.hbm, 150, rfl⟩
abbrev main_call1_call0_v69 : Ref sig .tc := ⟨.hbm, 151, rfl⟩
abbrev main_call1_call0_v70 : Ref sig .tc := ⟨.hbm, 152, rfl⟩
abbrev main_call1_call0_v71 : Ref sig .tc := ⟨.hbm, 153, rfl⟩
abbrev main_call1_call0_c_17 : Ref sig .tc := ⟨.hbm, 154, rfl⟩
abbrev main_call1_call0_v72 : Ref sig .tc := ⟨.hbm, 155, rfl⟩
abbrev main_call1_call0_v73 : Ref sig .tc := ⟨.hbm, 156, rfl⟩
abbrev main_call1_call0_v74 : Ref sig .tc := ⟨.hbm, 157, rfl⟩
abbrev main_call1_call0_c_18 : Ref sig .tc := ⟨.hbm, 158, rfl⟩
abbrev main_call1_call0_v75 : Ref sig .tc := ⟨.hbm, 159, rfl⟩
abbrev main_call1_call0_v76 : Ref sig .tc := ⟨.hbm, 160, rfl⟩
abbrev main_call1_call0_c_19 : Ref sig .tc := ⟨.hbm, 161, rfl⟩
abbrev main_call1_call0_v77 : Ref sig .tc := ⟨.hbm, 162, rfl⟩
abbrev main_call1_call0_v78 : Ref sig .tc := ⟨.hbm, 163, rfl⟩
abbrev main_call1_call0_v79 : Ref sig .tc := ⟨.hbm, 164, rfl⟩
abbrev main_call1_call0_v80 : Ref sig .tc := ⟨.hbm, 165, rfl⟩
abbrev main_call1_call0_v81 : Ref sig .tc := ⟨.hbm, 166, rfl⟩
abbrev main_call1_call0_c_20 : Ref sig .tc := ⟨.hbm, 167, rfl⟩
abbrev main_call1_call0_v82 : Ref sig .tc := ⟨.hbm, 168, rfl⟩
abbrev main_call1_call0_v83 : Ref sig .tc := ⟨.hbm, 169, rfl⟩
abbrev main_call1_call0_c_21 : Ref sig .tc := ⟨.hbm, 170, rfl⟩
abbrev main_call1_call0_v84 : Ref sig .tc := ⟨.hbm, 171, rfl⟩
abbrev main_call1_call0_v85 : Ref sig .tc := ⟨.hbm, 172, rfl⟩
abbrev main_call1_call0_v86 : Ref sig .tc := ⟨.hbm, 173, rfl⟩
abbrev main_call1_call0_v87 : Ref sig .tc := ⟨.hbm, 174, rfl⟩
abbrev main_call1_call0_v88 : Ref sig .tc := ⟨.hbm, 175, rfl⟩
abbrev main_call1_call0_c_22 : Ref sig .tc := ⟨.hbm, 176, rfl⟩
abbrev main_call1_call0_v89 : Ref sig .tc := ⟨.hbm, 177, rfl⟩
abbrev main_call1_call0_v90 : Ref sig .tc := ⟨.hbm, 178, rfl⟩
abbrev main_call1_call0_c_23 : Ref sig .tc := ⟨.hbm, 179, rfl⟩
abbrev main_call1_call0_v91 : Ref sig .tc := ⟨.hbm, 180, rfl⟩
abbrev main_call1_call0_v92 : Ref sig .tc := ⟨.hbm, 181, rfl⟩
abbrev main_call1_call0_v93 : Ref sig .tc := ⟨.hbm, 182, rfl⟩
abbrev main_call1_call0_v94 : Ref sig .tc := ⟨.hbm, 183, rfl⟩
abbrev main_call1_call0_v95 : Ref sig .tc := ⟨.hbm, 184, rfl⟩
abbrev main_call1_call0_c_24 : Ref sig .tc := ⟨.hbm, 185, rfl⟩
abbrev main_call1_call0_v96 : Ref sig .tc := ⟨.hbm, 186, rfl⟩
abbrev main_call1_call0_v97 : Ref sig .tc := ⟨.hbm, 187, rfl⟩
abbrev main_call1_call0_c_25 : Ref sig .tc := ⟨.hbm, 188, rfl⟩
abbrev main_call1_call0_v98 : Ref sig .tc := ⟨.hbm, 189, rfl⟩
abbrev main_call1_call0_v99 : Ref sig .tc := ⟨.hbm, 190, rfl⟩
abbrev main_call1_call0_v100 : Ref sig .tc := ⟨.hbm, 191, rfl⟩
abbrev main_call1_call0_v101 : Ref sig .tc := ⟨.hbm, 192, rfl⟩
abbrev main_call1_call0_v102 : Ref sig .tc := ⟨.hbm, 193, rfl⟩
abbrev main_call1_call0_v103 : Ref sig .tc := ⟨.hbm, 194, rfl⟩
abbrev main_call1_call0_v104 : Ref sig .tc := ⟨.hbm, 195, rfl⟩
abbrev main_call1_call0_v105 : Ref sig .tc := ⟨.hbm, 196, rfl⟩
abbrev main_call1_call0_c_26 : Ref sig .tc := ⟨.hbm, 197, rfl⟩
abbrev main_call1_call0_v106 : Ref sig .tc := ⟨.hbm, 198, rfl⟩
abbrev main_call1_call0_v107 : Ref sig .tc := ⟨.hbm, 199, rfl⟩
abbrev main_call1_call0_v108 : Ref sig .tc := ⟨.hbm, 200, rfl⟩
abbrev main_call1_call0_c_27 : Ref sig .tc := ⟨.hbm, 201, rfl⟩
abbrev main_call1_call0_v109 : Ref sig .tc := ⟨.hbm, 202, rfl⟩
abbrev main_call1_call0_v110 : Ref sig .tc := ⟨.hbm, 203, rfl⟩
abbrev main_call1_call0_c_28 : Ref sig .tc := ⟨.hbm, 204, rfl⟩
abbrev main_call1_call0_v111 : Ref sig .tc := ⟨.hbm, 205, rfl⟩
abbrev main_call1_call0_v112 : Ref sig .tc := ⟨.hbm, 206, rfl⟩
abbrev main_call1_call0_v113 : Ref sig .tc := ⟨.hbm, 207, rfl⟩
abbrev main_call1_call0_v114 : Ref sig .tc := ⟨.hbm, 208, rfl⟩
abbrev main_call1_call0_v115 : Ref sig .tc := ⟨.hbm, 209, rfl⟩
abbrev main_call1_call0_c_29 : Ref sig .tc := ⟨.hbm, 210, rfl⟩
abbrev main_call1_call0_v116 : Ref sig .tc := ⟨.hbm, 211, rfl⟩
abbrev main_call1_call0_v117 : Ref sig .tc := ⟨.hbm, 212, rfl⟩
abbrev main_call1_call0_c_30 : Ref sig .tc := ⟨.hbm, 213, rfl⟩
abbrev main_call1_call0_v118 : Ref sig .tc := ⟨.hbm, 214, rfl⟩
abbrev main_call1_call0_v119 : Ref sig .tc := ⟨.hbm, 215, rfl⟩
abbrev main_call1_call0_v120 : Ref sig .tc := ⟨.hbm, 216, rfl⟩
abbrev main_call1_call0_v121 : Ref sig .tc := ⟨.hbm, 217, rfl⟩
abbrev main_call1_call0_v122 : Ref sig .tc := ⟨.hbm, 218, rfl⟩
abbrev main_call1_call0_c_31 : Ref sig .tc := ⟨.hbm, 219, rfl⟩
abbrev main_call1_call0_v123 : Ref sig .tc := ⟨.hbm, 220, rfl⟩
abbrev main_call1_call0_v124 : Ref sig .tc := ⟨.hbm, 221, rfl⟩
abbrev main_call1_call0_c_32 : Ref sig .tc := ⟨.hbm, 222, rfl⟩
abbrev main_call1_call0_v125 : Ref sig .tc := ⟨.hbm, 223, rfl⟩
abbrev main_call1_call0_v126 : Ref sig .tc := ⟨.hbm, 224, rfl⟩
abbrev main_call1_call0_v127 : Ref sig .tc := ⟨.hbm, 225, rfl⟩
abbrev main_call1_call0_v128 : Ref sig .tc := ⟨.hbm, 226, rfl⟩
abbrev main_call1_call0_v129 : Ref sig .tc := ⟨.hbm, 227, rfl⟩
abbrev main_call1_call0_c_33 : Ref sig .tc := ⟨.hbm, 228, rfl⟩
abbrev main_call1_call0_v130 : Ref sig .tc := ⟨.hbm, 229, rfl⟩
abbrev main_call1_call0_v131 : Ref sig .tc := ⟨.hbm, 230, rfl⟩
abbrev main_call1_call0_c_34 : Ref sig .tc := ⟨.hbm, 231, rfl⟩
abbrev main_call1_call0_v132 : Ref sig .tc := ⟨.hbm, 232, rfl⟩
abbrev main_call1_call0_v133 : Ref sig .tc := ⟨.hbm, 233, rfl⟩
abbrev main_call1_call0_v134 : Ref sig .tc := ⟨.hbm, 234, rfl⟩
abbrev main_call1_call0_v135 : Ref sig .tc := ⟨.hbm, 235, rfl⟩
abbrev main_call1_call0_v136 : Ref sig .tc := ⟨.hbm, 236, rfl⟩
abbrev main_call1_call0_v137 : Ref sig .tc := ⟨.hbm, 237, rfl⟩
abbrev main_call1_call0_v138 : Ref sig .tc := ⟨.hbm, 238, rfl⟩
abbrev main_call1_call0_v139 : Ref sig .tc := ⟨.hbm, 239, rfl⟩
abbrev main_call1_call0_c_35 : Ref sig .tc := ⟨.hbm, 240, rfl⟩
abbrev main_call1_call0_v140 : Ref sig .tc := ⟨.hbm, 241, rfl⟩
abbrev main_call1_call0_v141 : Ref sig .tc := ⟨.hbm, 242, rfl⟩
abbrev main_call1_call0_v142 : Ref sig .tc := ⟨.hbm, 243, rfl⟩
abbrev main_call1_call0_c_36 : Ref sig .tc := ⟨.hbm, 244, rfl⟩
abbrev main_call1_call0_v143 : Ref sig .tc := ⟨.hbm, 245, rfl⟩
abbrev main_call1_call0_v144 : Ref sig .tc := ⟨.hbm, 246, rfl⟩
abbrev main_call1_call0_c_37 : Ref sig .tc := ⟨.hbm, 247, rfl⟩
abbrev main_call1_call0_v145 : Ref sig .tc := ⟨.hbm, 248, rfl⟩
abbrev main_call1_call0_v146 : Ref sig .tc := ⟨.hbm, 249, rfl⟩
abbrev main_call1_call0_v147 : Ref sig .tc := ⟨.hbm, 250, rfl⟩
abbrev main_call1_call0_v148 : Ref sig .tc := ⟨.hbm, 251, rfl⟩
abbrev main_call1_call0_v149 : Ref sig .tc := ⟨.hbm, 252, rfl⟩
abbrev main_call1_call0_c_38 : Ref sig .tc := ⟨.hbm, 253, rfl⟩
abbrev main_call1_call0_v150 : Ref sig .tc := ⟨.hbm, 254, rfl⟩
abbrev main_call1_call0_v151 : Ref sig .tc := ⟨.hbm, 255, rfl⟩
abbrev main_call1_call0_c_39 : Ref sig .tc := ⟨.hbm, 256, rfl⟩
abbrev main_call1_call0_v152 : Ref sig .tc := ⟨.hbm, 257, rfl⟩
abbrev main_call1_call0_v153 : Ref sig .tc := ⟨.hbm, 258, rfl⟩
abbrev main_call1_call0_v154 : Ref sig .tc := ⟨.hbm, 259, rfl⟩
abbrev main_call1_call0_v155 : Ref sig .tc := ⟨.hbm, 260, rfl⟩
abbrev main_call1_call0_v156 : Ref sig .tc := ⟨.hbm, 261, rfl⟩
abbrev main_call1_call0_c_40 : Ref sig .tc := ⟨.hbm, 262, rfl⟩
abbrev main_call1_call0_v157 : Ref sig .tc := ⟨.hbm, 263, rfl⟩
abbrev main_call1_call0_v158 : Ref sig .tc := ⟨.hbm, 264, rfl⟩
abbrev main_call1_call0_c_41 : Ref sig .tc := ⟨.hbm, 265, rfl⟩
abbrev main_call1_call0_v159 : Ref sig .tc := ⟨.hbm, 266, rfl⟩
abbrev main_call1_call0_v160 : Ref sig .tc := ⟨.hbm, 267, rfl⟩
abbrev main_call1_call0_v161 : Ref sig .tc := ⟨.hbm, 268, rfl⟩
abbrev main_call1_call0_v162 : Ref sig .tc := ⟨.hbm, 269, rfl⟩
abbrev main_call1_call0_v163 : Ref sig .tc := ⟨.hbm, 270, rfl⟩
abbrev main_call1_call0_c_42 : Ref sig .tc := ⟨.hbm, 271, rfl⟩
abbrev main_call1_call0_v164 : Ref sig .tc := ⟨.hbm, 272, rfl⟩
abbrev main_call1_call0_v165 : Ref sig .tc := ⟨.hbm, 273, rfl⟩
abbrev main_call1_call0_c_43 : Ref sig .tc := ⟨.hbm, 274, rfl⟩
abbrev main_call1_call0_v166 : Ref sig .tc := ⟨.hbm, 275, rfl⟩
abbrev main_call1_call0_v167 : Ref sig .tc := ⟨.hbm, 276, rfl⟩
abbrev main_call1_call0_v168 : Ref sig .tc := ⟨.hbm, 277, rfl⟩
abbrev main_call1_call0_v169 : Ref sig .tc := ⟨.hbm, 278, rfl⟩
abbrev main_call1_call0_v170 : Ref sig .tc := ⟨.hbm, 279, rfl⟩
abbrev main_call1_v19_0 : Ref sig .tc := ⟨.hbm, 280, rfl⟩
abbrev main_call1_call0_v172 : Ref sig .tc := ⟨.hbm, 281, rfl⟩
abbrev main_call1_call0_v173 : Ref sig .tc := ⟨.hbm, 282, rfl⟩
abbrev main_call1_call0_c_44 : Ref sig .tc := ⟨.hbm, 283, rfl⟩
abbrev main_call1_call0_v174 : Ref sig .tc := ⟨.hbm, 284, rfl⟩
abbrev main_call1_v19_1 : Ref sig .tc := ⟨.hbm, 285, rfl⟩
abbrev main_call1_v20 : Ref sig .tc := ⟨.hbm, 286, rfl⟩
abbrev main_call1_c_2 : Ref sig .tc := ⟨.hbm, 287, rfl⟩
abbrev main_call1_v21 : Ref sig .tc := ⟨.hbm, 288, rfl⟩
abbrev main_call1_v22 : Ref sig .tc := ⟨.hbm, 289, rfl⟩
abbrev main_call1_c_3 : Ref sig .tc := ⟨.hbm, 290, rfl⟩
abbrev main_call1_v23 : Ref sig .tc := ⟨.hbm, 291, rfl⟩
abbrev main_call1_v24 : Ref sig .tc := ⟨.hbm, 292, rfl⟩
abbrev main_call1_v25 : Ref sig .tc := ⟨.hbm, 293, rfl⟩
abbrev main_call1_cst : Ref sig .tc := ⟨.hbm, 294, rfl⟩
abbrev main_call1_v26 : Ref sig .tc := ⟨.hbm, 295, rfl⟩
abbrev main_call1_v27 : Ref sig .tc := ⟨.hbm, 296, rfl⟩
abbrev main_call1_v28 : Ref sig .tc := ⟨.hbm, 297, rfl⟩
abbrev main_call1_v29 : Ref sig .tc := ⟨.hbm, 298, rfl⟩
abbrev main_call1_v30 : Ref sig .tc := ⟨.hbm, 299, rfl⟩
abbrev main_call1_v31 : Ref sig .tc := ⟨.hbm, 300, rfl⟩
abbrev main_call1_v32 : Ref sig .tc := ⟨.hbm, 301, rfl⟩
abbrev main_call1_v33 : Ref sig .tc := ⟨.hbm, 302, rfl⟩
abbrev main_v17 : Ref sig .tc := ⟨.hbm, 303, rfl⟩
abbrev main_v18 : Ref sig .tc := ⟨.hbm, 304, rfl⟩
abbrev main_v19 : Ref sig .tc := ⟨.hbm, 305, rfl⟩
abbrev main_v20 : Ref sig .tc := ⟨.hbm, 306, rfl⟩
abbrev main_v21 : Ref sig .tc := ⟨.hbm, 307, rfl⟩
abbrev main_v22 : Ref sig .tc := ⟨.hbm, 308, rfl⟩
abbrev main_call2_v0 : Ref sig .tc := ⟨.hbm, 309, rfl⟩
abbrev main_call2_cst : Ref sig .tc := ⟨.hbm, 310, rfl⟩
abbrev main_call2_c : Ref sig .tc := ⟨.hbm, 311, rfl⟩
abbrev main_call2_v1_0 : Ref sig .tc := ⟨.hbm, 312, rfl⟩
abbrev main_v23 : Ref sig .tc := ⟨.hbm, 313, rfl⟩
abbrev main_v24 : Ref sig .tc := ⟨.hbm, 314, rfl⟩
abbrev main_call3_c : Ref sig .tc := ⟨.hbm, 315, rfl⟩
abbrev main_call3_v0 : Ref sig .tc := ⟨.hbm, 316, rfl⟩
abbrev main_call3_v1 : Ref sig .tc := ⟨.hbm, 317, rfl⟩
abbrev main_call3_c_0 : Ref sig .tc := ⟨.hbm, 318, rfl⟩
abbrev main_call3_v2 : Ref sig .tc := ⟨.hbm, 319, rfl⟩
abbrev main_call3_v3 : Ref sig .tc := ⟨.hbm, 320, rfl⟩
abbrev main_call3_v4 : Ref sig .tc := ⟨.hbm, 321, rfl⟩
abbrev main_call3_v5 : Ref sig .tc := ⟨.hbm, 322, rfl⟩
abbrev main_call3_c_1 : Ref sig .tc := ⟨.hbm, 323, rfl⟩
abbrev main_call3_c_2 : Ref sig .tc := ⟨.hbm, 324, rfl⟩
abbrev main_call3_v6 : Ref sig .tc := ⟨.hbm, 325, rfl⟩
abbrev main_call3_v7 : Ref sig .tc := ⟨.hbm, 326, rfl⟩
abbrev main_call3_v8 : Ref sig .tc := ⟨.hbm, 327, rfl⟩
abbrev main_call3_v9 : Ref sig .tc := ⟨.hbm, 328, rfl⟩
abbrev main_call3_v10 : Ref sig .tc := ⟨.hbm, 329, rfl⟩
abbrev main_call3_v11 : Ref sig .tc := ⟨.hbm, 330, rfl⟩
abbrev main_call3_c_3 : Ref sig .tc := ⟨.hbm, 331, rfl⟩
abbrev main_call3_v12 : Ref sig .tc := ⟨.hbm, 332, rfl⟩
abbrev main_call3_v13 : Ref sig .tc := ⟨.hbm, 333, rfl⟩
abbrev main_call3_cst : Ref sig .tc := ⟨.hbm, 334, rfl⟩
abbrev main_call3_v14 : Ref sig .tc := ⟨.hbm, 335, rfl⟩
abbrev main_v25 : Ref sig .tc := ⟨.hbm, 336, rfl⟩
abbrev main_v26 : Ref sig .tc := ⟨.hbm, 337, rfl⟩

abbrev nD : Nat := 1
abbrev τ : Topo := Topo.v7x

variable {F : FTy → Type} [FloatOps F]
-- ==== Proof.RefOps.lean ====
/- The reference's host operations, in order: one list per stretch of its main function. -/
module

public import proofs.«01_k».proof.Proof.Gen.ReferenceIdeal
public import Idealize.ShloMosaic.Lib.StableHlo.RunHlo

@[expose] public section

set_option maxRecDepth 16384

noncomputable section

namespace Cert.RefRun

open Cert.ReferenceIdeal Cert.ReferenceIdeal.Gen
open Idealize.ShloMosaic Idealize.SL.Sem

variable {F : FTy → Type} [FloatOps F]

set_option maxHeartbeats 40000000 in
/-- Host operations of the main function, stretch 0, in order. -/
abbrev ops0 : List (HloOp τ sig (Elt F)) :=
  [ StableHlo.binary main_arg0 main_arg2 main_v0 ((fun l r => Host.dotGeneral dot_S64x1024_S1024x128_S64x128_1_0_0_1_n_n none l r) : (⟨S64x1024, .f32⟩ : BufTy).Contents (Elt F) → (⟨S1024x128, .f32⟩ : BufTy).Contents (Elt F) → (⟨S64x128, .f32⟩ : BufTy).Contents (Elt F))
  , StableHlo.binary main_arg1 main_v0 main_v1 ((fun l r => Host.dotGeneral dot_S64x4096x128_S64x128_S64x4096_2_1_1_n_0_0 none l r) : (⟨S64x4096x128, .f32⟩ : BufTy).Contents (Elt F) → (⟨S64x128, .f32⟩ : BufTy).Contents (Elt F) → (⟨S64x4096, .f32⟩ : BufTy).Contents (Elt F))
  , StableHlo.binary main_arg0 main_arg3 main_v2 ((fun l r => Host.dotGeneral dot_S64x1024_S1024x1_S64x1_1_0_0_1_n_n none l r) : (⟨S64x1024, .f32⟩ : BufTy).Contents (Elt F) → (⟨S1024x1, .f32⟩ : BufTy).Contents (Elt F) → (⟨S64x1, .f32⟩ : BufTy).Contents (Elt F))
  , StableHlo.unary main_arg4 main_v3 (broadcastInDim S1x1 ![1] bcast_S1_S1x1_1 : (⟨S1, .f32⟩ : BufTy).Contents (Elt F) → (⟨S1x1, .f32⟩ : BufTy).Contents (Elt F))
  , StableHlo.unary main_v3 main_v4 (broadcastInDim S64x1 ![0, 1] bcast_S1x1_S64x1_0_1 : (⟨S1x1, .f32⟩ : BufTy).Contents (Elt F) → (⟨S64x1, .f32⟩ : BufTy).Contents (Elt F))
  , StableHlo.binary main_v2 main_v4 main_v5 (addf : (⟨S64x1, .f32⟩ : BufTy).Contents (Elt F) → (⟨S64x1, .f32⟩ : BufTy).Contents (Elt F) → (⟨S64x1, .f32⟩ : BufTy).Contents (Elt F))
  , StableHlo.binary main_v1 main_v5 main_v6 ((fun a b => concatenate S64x4097 1 [⟨S64x4096, a⟩, ⟨S64x1, b⟩] concatenates_S64x4096_S64x1_S64x4097_d1) : (⟨S64x4096, .f32⟩ : BufTy).Contents (Elt F) → (⟨S64x1, .f32⟩ : BufTy).Contents (Elt F) → (⟨S64x4097, .f32⟩ : BufTy).Contents (Elt F))
  , StableHlo.nullary main_cst (constant S_ .f32 0x3F800000#32)
  , StableHlo.unary main_cst main_v7 (broadcastInDim S64x4097 ![] bcast_S_S64x4097 : (⟨S_, .f32⟩ : BufTy).Contents (Elt F) → (⟨S64x4097, .f32⟩ : BufTy).Contents (Elt F))
  , StableHlo.binary main_v6 main_v7 main_v8 (Host.divf : (⟨S64x4097, .f32⟩ : BufTy).Contents (Elt F) → (⟨S64x4097, .f32⟩ : BufTy).Contents (Elt F) → (⟨S64x4097, .f32⟩ : BufTy).Contents (Elt F)) ]

/-- Every one of them touches TensorCore references only. -/
theorem ops0_sub : (ops0 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

set_option maxHeartbeats 40000000 in
/-- The operations of the log-softmax, in order. -/
abbrev ops1 : List (HloOp τ sig (Elt F)) :=
  [ StableHlo.TRef.nullary (.of main_call0_cst : StableHlo.TRef sig ⟨S_, .f32⟩) (constant S_ .f32 0xFF800000#32)
  , StableHlo.TRef.binary (.of main_v8 : StableHlo.TRef sig ⟨S64x4097, .f32⟩) (.of main_call0_cst : StableHlo.TRef sig ⟨S_, .f32⟩) (.of main_call0_v0 : StableHlo.TRef sig ⟨S64, .f32⟩) (fun x v => Host.reduce FloatOps.maximumf x v reducesTo_S64x4097_S64_d1 h_S_)
  , StableHlo.TRef.nullary (.of main_call0_cst_0 : StableHlo.TRef sig ⟨S_, .f32⟩) (constant S_ .f32 0xFF800000#32)
  , StableHlo.TRef.unary (.of main_call0_cst_0 : StableHlo.TRef sig ⟨S_, .f32⟩) (.of main_call0_v1 : StableHlo.TRef sig ⟨S64, .f32⟩) (broadcastInDim S64 ![] bcast_S_S64)
  , StableHlo.TRef.binary (.of main_call0_v1 : StableHlo.TRef sig ⟨S64, .f32⟩) (.of main_call0_v0 : StableHlo.TRef sig ⟨S64, .f32⟩) (.of main_call0_v2 : StableHlo.TRef sig ⟨S64, .f32⟩) maximumf
  , StableHlo.TRef.unary (.of main_call0_v2 : StableHlo.TRef sig ⟨S64, .f32⟩) (.of main_call0_v3 : StableHlo.TRef sig ⟨S64x1, .f32⟩) (broadcastInDim S64x1 ![0] bcast_S64_S64x1_0)
  , StableHlo.TRef.unary (.of main_call0_v3 : StableHlo.TRef sig ⟨S64x1, .f32⟩) (.of main_call0_v4 : StableHlo.TRef sig ⟨S64x4097, .f32⟩) (broadcastInDim S64x4097 ![0, 1] bcast_S64x1_S64x4097_0_1)
  , StableHlo.TRef.binary (.of main_v8 : StableHlo.TRef sig ⟨S64x4097, .f32⟩) (.of main_call0_v4 : StableHlo.TRef sig ⟨S64x4097, .f32⟩) (.of main_call0_v5 : StableHlo.TRef sig ⟨S64x4097, .f32⟩) subf
  , StableHlo.TRef.unary (.of main_call0_v5 : StableHlo.TRef sig ⟨S64x4097, .f32⟩) (.of main_call0_v6 : StableHlo.TRef sig ⟨S64x4097, .f32⟩) Host.exp
  , StableHlo.TRef.nullary (.of main_call0_cst_1 : StableHlo.TRef sig ⟨S_, .f32⟩) (constant S_ .f32 0x00000000#32)
  , StableHlo.TRef.binary (.of main_call0_v6 : StableHlo.TRef sig ⟨S64x4097, .f32⟩) (.of main_call0_cst_1 : StableHlo.TRef sig ⟨S_, .f32⟩) (.of main_call0_v7 : StableHlo.TRef sig ⟨S64, .f32⟩) (fun x v => Host.reduceAdd x v reducesTo_S64x4097_S64_d1 h_S_)
  , StableHlo.TRef.unary (.of main_call0_v7 : StableHlo.TRef sig ⟨S64, .f32⟩) (.of main_call0_v8 : StableHlo.TRef sig ⟨S64x1, .f32⟩) (broadcastInDim S64x1 ![0] bcast_S64_S64x1_0)
  , StableHlo.TRef.unary (.of main_call0_v8 : StableHlo.TRef sig ⟨S64x1, .f32⟩) (.of main_call0_v9 : StableHlo.TRef sig ⟨S64x1, .f32⟩) Host.log
  , StableHlo.TRef.unary (.of main_call0_v9 : StableHlo.TRef sig ⟨S64x1, .f32⟩) (.of main_call0_v10 : StableHlo.TRef sig ⟨S64x4097, .f32⟩) (broadcastInDim S64x4097 ![0, 1] bcast_S64x1_S64x4097_0_1)
  , StableHlo.TRef.binary (.of main_call0_v5 : StableHlo.TRef sig ⟨S64x4097, .f32⟩) (.of main_call0_v10 : StableHlo.TRef sig ⟨S64x4097, .f32⟩) (.of main_v9 : StableHlo.TRef sig ⟨S64x4097, .f32⟩) subf ]

/-- Every one of them touches TensorCore references only. -/
theorem ops1_sub : (ops1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

set_option maxHeartbeats 40000000 in
/-- Host operations of the main function, stretch 2, in order. -/
abbrev ops2 : List (HloOp τ sig (Elt F)) :=
  [ StableHlo.TRef.nullary (.of main_c : StableHlo.TRef sig ⟨S_, .i32⟩) (constantI S_ 32 1#32)
  , StableHlo.TRef.nullary (.of main_c_0 : StableHlo.TRef sig ⟨S_, .i32⟩) (constantI S_ 32 32#32)
  , StableHlo.TRef.binary (.of main_c : StableHlo.TRef sig ⟨S_, .i32⟩) (.of main_c_0 : StableHlo.TRef sig ⟨S_, .i32⟩) (.of main_v10 : StableHlo.TRef sig ⟨S_, .i32⟩) (Host.shrui)
  , StableHlo.TRef.unary (.of main_v10 : StableHlo.TRef sig ⟨S_, .i32⟩) (.of main_v11 : StableHlo.TRef sig ⟨S_, .i32⟩) (id)
  , StableHlo.TRef.unary (.of main_v11 : StableHlo.TRef sig ⟨S_, .i32⟩) (.of main_v12 : StableHlo.TRef sig ⟨S1, .i32⟩) (broadcastInDim S1 ![] bcast_S_S1)
  , StableHlo.TRef.nullary (.of main_c_1 : StableHlo.TRef sig ⟨S_, .i32⟩) (constantI S_ 32 4294967295#32)
  , StableHlo.TRef.binary (.of main_c : StableHlo.TRef sig ⟨S_, .i32⟩) (.of main_c_1 : StableHlo.TRef sig ⟨S_, .i32⟩) (.of main_v13 : StableHlo.TRef sig ⟨S_, .i32⟩) (andi)
  , StableHlo.TRef.unary (.of main_v13 : StableHlo.TRef sig ⟨S_, .i32⟩) (.of main_v14 : StableHlo.TRef sig ⟨S_, .i32⟩) (id)
  , StableHlo.TRef.unary (.of main_v14 : StableHlo.TRef sig ⟨S_, .i32⟩) (.of main_v15 : StableHlo.TRef sig ⟨S1, .i32⟩) (broadcastInDim S1 ![] bcast_S_S1)
  , StableHlo.TRef.binary (.of main_v12 : StableHlo.TRef sig ⟨S1, .i32⟩) (.of main_v15 : StableHlo.TRef sig ⟨S1, .i32⟩) (.of main_v16 : StableHlo.TRef sig ⟨S2, .i32⟩) ((fun a b => concatenate S2 0 [⟨S1, a⟩, ⟨S1, b⟩] concatenates_S1_S1_S2_d0))
  , StableHlo.TRef.nullary (.of main_cst_2 : StableHlo.TRef sig ⟨S_, .f32⟩) (constant S_ .f32 0x3089705F#32)
  , StableHlo.TRef.nullary (.of main_cst_3 : StableHlo.TRef sig ⟨S_, .f32⟩) (constant S_ .f32 0x3F800000#32) ]

/-- Every one of them touches TensorCore references only. -/
theorem ops2_sub : (ops2 : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩

set_option maxHeartbeats 40000000 in
/-- The operations of the uniform draw, in order. -/
abbrev ops3 : List (HloOp τ sig (Elt F)) :=
  [ StableHlo.TRef.unary (.of main_cst_2 : StableHlo.TRef sig ⟨S_, .f32⟩) (.of main_call1_v0 : StableHlo.TRef sig ⟨S_, .f32⟩) id
  , StableHlo.TRef.unary (.of main_cst_3 : StableHlo.TRef sig ⟨S_, .f32⟩) (.of main_call1_v1 : StableHlo.TRef sig ⟨S_, .f32⟩) id
  , StableHlo.TRef.unary (.of main_call1_v0 : StableHlo.TRef sig ⟨S_, .f32⟩) (.of main_call1_v2 : StableHlo.TRef sig ⟨S1x1, .f32⟩) (broadcastInDim S1x1 ![] bcast_S_S1x1)
  , StableHlo.TRef.unary (.of main_call1_v1 : StableHlo.TRef sig ⟨S_, .f32⟩) (.of main_call1_v3 : StableHlo.TRef sig ⟨S1x1, .f32⟩) (broadcastInDim S1x1 ![] bcast_S_S1x1)
  , StableHlo.TRef.unary (.of main_v16 : StableHlo.TRef sig ⟨S2, .i32⟩) (.of main_call1_v4 : StableHlo.TRef sig ⟨S1, .i32⟩) (extractStridedSlice S1 ![0] · slices_S2_S1_0)
  , StableHlo.TRef.reshape (.of main_call1_v4 : StableHlo.TRef sig ⟨S1, .i32⟩) (.of main_call1_v5 : StableHlo.TRef sig ⟨S_, .i32⟩) (rfl : (.i32 : EltTy) = .i32) shapeCasts_S1_S_
  , StableHlo.TRef.unary (.of main_v16 : StableHlo.TRef sig ⟨S2, .i32⟩) (.of main_call1_v6 : StableHlo.TRef sig ⟨S1, .i32⟩) (extractStridedSlice S1 ![1] · slices_S2_S1_1)
  , StableHlo.TRef.reshape (.of main_call1_v6 : StableHlo.TRef sig ⟨S1, .i32⟩) (.of main_call1_v7 : StableHlo.TRef sig ⟨S_, .i32⟩) (rfl : (.i32 : EltTy) = .i32) shapeCasts_S1_S_
  , StableHlo.TRef.nullary (.of main_call1_v8 : StableHlo.TRef sig ⟨S64x4097, .i64⟩) (iotaInDim S64x4097 64 0)
  , StableHlo.TRef.nullary (.of main_call1_v9 : StableHlo.TRef sig ⟨S64x4097, .i64⟩) (iotaInDim S64x4097 64 1)
  , StableHlo.TRef.nullary (.of main_call1_c : StableHlo.TRef sig ⟨S_, .i64⟩) (constantI S_ 64 4097#64)
  , StableHlo.TRef.unary (.of main_call1_c : StableHlo.TRef sig ⟨S_, .i64⟩) (.of main_call1_v10 : StableHlo.TRef sig ⟨S64x4097, .i64⟩) (broadcastInDim S64x4097 ![] bcast_S_S64x4097)
  , StableHlo.TRef.binary (.of main_call1_v10 : StableHlo.TRef sig ⟨S64x4097, .i64⟩) (.of main_call1_v8 : StableHlo.TRef sig ⟨S64x4097, .i64⟩) (.of main_call1_v11 : StableHlo.TRef sig ⟨S64x4097, .i64⟩) muli
  , StableHlo.TRef.nullary (.of main_call1_c_0 : StableHlo.TRef sig ⟨S_, .i64⟩) (constantI S_ 64 1#64)
  , StableHlo.TRef.unary (.of main_call1_c_0 : StableHlo.TRef sig ⟨S_, .i64⟩) (.of main_call1_v12 : StableHlo.TRef sig ⟨S64x4097, .i64⟩) (broadcastInDim S64x4097 ![] bcast_S_S64x4097)
  , StableHlo.TRef.binary (.of main_call1_v12 : StableHlo.TRef sig ⟨S64x4097, .i64⟩) (.of main_call1_v9 : StableHlo.TRef sig ⟨S64x4097, .i64⟩) (.of main_call1_v13 : StableHlo.TRef sig ⟨S64x4097, .i64⟩) muli
  , StableHlo.TRef.binary (.of main_call1_v11 : StableHlo.TRef sig ⟨S64x4097, .i64⟩) (.of main_call1_v13 : StableHlo.TRef sig ⟨S64x4097, .i64⟩) (.of main_call1_v14 : StableHlo.TRef sig ⟨S64x4097, .i64⟩) addi
  , StableHlo.TRef.nullary (.of main_call1_c_1 : StableHlo.TRef sig ⟨S_, .i64⟩) (constantI S_ 64 32#64)
  , StableHlo.TRef.unary (.of main_call1_c_1 : StableHlo.TRef sig ⟨S_, .i64⟩) (.of main_call1_v15 : StableHlo.TRef sig ⟨S64x4097, .i64⟩) (broadcastInDim S64x4097 ![] bcast_S_S64x4097)
  , StableHlo.TRef.binary (.of main_call1_v14 : StableHlo.TRef sig ⟨S64x4097, .i64⟩) (.of main_call1_v15 : StableHlo.TRef sig ⟨S64x4097, .i64⟩) (.of main_call1_v16 : StableHlo.TRef sig ⟨S64x4097, .i64⟩) Host.shrui
  , StableHlo.TRef.unary (.of main_call1_v14 : StableHlo.TRef sig ⟨S64x4097, .i64⟩) (.of main_call1_v17 : StableHlo.TRef sig ⟨S64x4097, .i32⟩) (trunci 32 · natLt_32_64)
  , StableHlo.TRef.unary (.of main_call1_v16 : StableHlo.TRef sig ⟨S64x4097, .i64⟩) (.of main_call1_v18 : StableHlo.TRef sig ⟨S64x4097, .i32⟩) (trunci 32 · natLt_32_64)
  , StableHlo.TRef.binary (.of main_call1_v5 : StableHlo.TRef sig ⟨S_, .i32⟩) (.of main_call1_v7 : StableHlo.TRef sig ⟨S_, .i32⟩) (.of main_call1_call0_v0 : StableHlo.TRef sig ⟨S_, .i32⟩) xori
  , StableHlo.TRef.nullary (.of main_call1_call0_c : StableHlo.TRef sig ⟨S_, .i32⟩) (constantI S_ 32 466688986#32)
  , StableHlo.TRef.binary (.of main_call1_call0_v0 : StableHlo.TRef sig ⟨S_, .i32⟩) (.of main_call1_call0_c : StableHlo.TRef sig ⟨S_, .i32⟩) (.of main_call1_call0_v1 : StableHlo.TRef sig ⟨S_, .i32⟩) xori
  , StableHlo.TRef.unary (.of main_call1_v5 : StableHlo.TRef sig ⟨S_, .i32⟩) (.of main_call1_call0_v2 : StableHlo.TRef sig ⟨S64x4097, .i32⟩) (broadcastInDim S64x4097 ![] bcast_S_S64x4097)
  , StableHlo.TRef.binary (.of main_call1_v18 : StableHlo.TRef sig ⟨S64x4097, .i32⟩) (.of main_call1_call0_v2 : StableHlo.TRef sig ⟨S64x4097, .i32⟩) (.of main_call1_call0_v3 : StableHlo.TRef sig ⟨S64x4097, .i32⟩) addi
  , StableHlo.TRef.unary (.of main_call1_v7 : StableHlo.TRef sig ⟨S_, .i32⟩) (.of main_call1_call0_v4 : StableHlo.TRef sig ⟨S64x4097, .i32⟩) (broadcastInDim S64x4097 ![] bcast_S_S64x4097)
  , StableHlo.TRef.binary (.of main_call1_v17 : StableHlo.TRef sig ⟨S64x4097, .i32⟩) (.of main_call1_call0_v4 : StableHlo.TRef sig ⟨S64x4097, .i32⟩) (.of main_call1_call0_v5 : StableHlo.TRef sig ⟨S64x4097, .i32⟩) addi
  , StableHlo.TRef.binary (.of main_call1_call0_v3 : StableHlo.TRef sig ⟨S64x4097, .i32⟩) (.of main_call1_call0_v5 : StableHlo.TRef sig ⟨S64x4097, .i32⟩) (.of main_call1_call0_v6 : StableHlo.TRef sig ⟨S64x4097, .i32⟩) addi
  , StableHlo.TRef.nullary (.of main_call1_call0_c_0 : StableHlo.TRef sig ⟨S_, .i32⟩) (constantI S_ 32 13#32)
  , StableHlo.TRef.unary (.of main_call1_call0_c_0 : StableHlo.TRef sig ⟨S_, .i32⟩) (.of main_call1_call0_v7 : StableHlo.TRef sig ⟨S64x4097, .i32⟩) (broadcastInDim S64x4097 ![] bcast_S_S64x4097)
  , StableHlo.TRef.binary (.of main_call1_call0_v5 : StableHlo.TRef sig ⟨S64x4097, .i32⟩) (.of main_call1_call0_v7 : StableHlo.TRef sig ⟨S64x4097, .i32⟩) (.of main_call1_call0_v8 : StableHlo.TRef sig ⟨S64x4097, .i32⟩) Host.shli
  , StableHlo.TRef.nullary (.of main_call1_call0_c_1 : StableHlo.TRef sig ⟨S_, .i32⟩) (constantI S_ 32 19#32)
  , StableHlo.TRef.unary (.of main_call1_call0_c_1 : StableHlo.TRef sig ⟨S_, .i32⟩) (.of main_call1_call0_v9 : StableHlo.TRef sig ⟨S64x4097, .i32⟩) (broadcastInDim S64x4097 ![] bcast_S_S64x4097)
  , StableHlo.TRef.binary (.of main_call1_call0_v5 : StableHlo.TRef sig ⟨S64x4097, .i32⟩) (.of main_call1_call0_v9 : StableHlo.TRef sig ⟨S64x4097, .i32⟩) (.of main_call1_call0_v10 : StableHlo.TRef sig ⟨S64x4097, .i32⟩) Host.shrui
  , StableHlo.TRef.binary (.of main_call1_call0_v8 : StableHlo.TRef sig ⟨S64x4097, .i32⟩) (.of main_call1_call0_v10 : StableHlo.TRef sig ⟨S64x4097, .i32⟩) (.of main_call1_call0_v11 : StableHlo.TRef sig ⟨S64x4097, .i32⟩) ori
  , StableHlo.TRef.binary (.of main_call1_call0_v6 : StableHlo.TRef sig ⟨S64x4097, .i32⟩) (.of main_call1_call0_v11 : StableHlo.TRef sig ⟨S64x4097, .i32⟩) (.of main_call1_call0_v12 : StableHlo.TRef sig ⟨S64x4097, .i32⟩) xori
  , StableHlo.TRef.binary (.of main_call1_call0_v6 : StableHlo.TRef sig ⟨S64x4097, .i32⟩) (.of main_call1_call0_v12 : StableHlo.TRef sig ⟨S64x4097, .i32⟩) (.of main_call1_call0_v13 : StableHlo.TRef sig ⟨S64x4097, .i32⟩) addi
  , StableHlo.TRef.nullary (.of main_call1_call0_c_2 : StableHlo.TRef sig ⟨S_, .i32⟩) (constantI S_ 32 15#32)
  , StableHlo.TRef.unary (.of main_call1_call0_c_2 : StableHlo.TRef sig ⟨S_, .i32⟩) (.of main_call1_call0_v14 : StableHlo.TRef sig ⟨S64x4097, .i32⟩) (broadcastInDim S64x4097 ![] bcast_S_S64x4097)
  , StableHlo.TRef.binary (.of main_call1_call0_v12 : StableHlo.TRef sig ⟨S64x4097, .i32⟩) (.of main_call1_call0_v14 : StableHlo.TRef sig ⟨S64x4097, .i32⟩) (.of main_call1_call0_v15 : StableHlo.TRef sig ⟨S64x4097, .i32⟩) Host.shli
  , StableHlo.TRef.nullary (.of main_call1_call0_c_3 : StableHlo.TRef sig ⟨S_, .i32⟩) (constantI S_ 32 17#32)
  , StableHlo.TRef.unary (.of main_call1_call0_c_3 : StableHlo.TRef sig ⟨S_, .i32⟩) (.of main_call1_call0_v16 : StableHlo.TRef sig ⟨S64x4097, .i32⟩) (broadcastInDim S64x4097 ![] bcast_S_S64x4097)
  , StableHlo.TRef.binary (.of main_call1_call0_v12 : StableHlo.TRef sig ⟨S64x4097, .i32⟩) (.of main_call1_call0_v16 : StableHlo.TRef sig ⟨S64x4097, .i32⟩) (.of main_call1_call0_v17 : StableHlo.TRef sig ⟨S64x4097, .i32⟩) Host.shrui
  , StableHlo.TRef.binary (.of main_call1_call0_v15 : StableHlo.TRef sig ⟨S64x4097, .i32⟩) (.of main_call1_call0_v17 : StableHlo.TRef sig ⟨S64x4097, .i32⟩) (.of main_call1_call0_v18 : StableHlo.TRef sig ⟨S64x4097, .i32⟩) ori
  , StableHlo.TRef.binary (.of main_call1_call0_v13 : StableHlo.TRef sig ⟨S64x4097, .i32⟩) (.of main_call1_call0_v18 : StableHlo.TRef sig ⟨S64x4097, .i32⟩) (.of main_call1_call0_v19 : StableHlo.TRef sig ⟨S64x4097, .i32⟩) xori
  , StableHlo.TRef.binary (.of main_call1_call0_v13 : StableHlo.TRef sig ⟨S64x4097, .i32⟩) (.of main_call1_call0_v19 : StableHlo.TRef sig ⟨S64x4097, .i32⟩) (.of main_call1_call0_v20 : StableHlo.TRef sig ⟨S64x4097, .i32⟩) addi
  , StableHlo.TRef.nullary (.of main_call1_call0_c_4 : StableHlo.TRef sig ⟨S_, .i32⟩) (constantI S_ 32 26#32)
  , StableHlo.TRef.unary (.of main_call1_call0_c_4 : StableHlo.TRef sig ⟨S_, .i32⟩) (.of main_call1_call0_v21 : StableHlo.TRef sig ⟨S64x4097, .i32⟩) (broadcastInDim S64x4097 ![] bcast_S_S64x4097)
  , StableHlo.TRef.binary (.of main_call1_call0_v19 : StableHlo.TRef sig ⟨S64x4097, .i32⟩) (.of main_call1_call0_v21 : StableHlo.TRef sig ⟨S64x4097, .i32⟩) (.of main_call1_call0_v22 : StableHlo.TRef sig ⟨S64x4097, .i32⟩) Host.shli
  , StableHlo.TRef.nullary (.of main_call1_call0_c_5 : StableHlo.TRef sig ⟨S_, .i32⟩) (constantI S_ 32 6#32)
  , StableHlo.TRef.unary (.of main_call1_call0_c_5 : StableHlo.TRef sig ⟨S_, .i32⟩) (.of main_call1_call0_v23 : StableHlo.TRef sig ⟨S64x4097, .i32⟩) (broadcastInDim S64x4097 ![] bcast_S_S64x4097)
  , StableHlo.TRef.binary (.of main_call1_call0_v19 : StableHlo.TRef sig ⟨S64x4097, .i32⟩) (.of main_call1_call0_v23 : StableHlo.TRef sig ⟨S64x4097, .i32⟩) (.of main_call1_call0_v24 : StableHlo.TRef sig ⟨S64x4097, .i32⟩) Host.shrui
  , StableHlo.TRef.binary (.of main_call1_call0_v22 : StableHlo.TRef sig ⟨S64x4097, .i32⟩) (.of main_call1_call0_v24 : StableHlo.TRef sig ⟨S64x4097, .i32⟩) (.of main_call1_call0_v25 : StableHlo.TRef sig ⟨S64x4097, .i32⟩) ori
  , StableHlo.TRef.binary (.of main_call1_call0_v20 : StableHlo.TRef sig ⟨S64x4097, .i32⟩) (.of main_call1_call0_v25 : StableHlo.TRef sig ⟨S64x4097, .i32⟩) (.of main_call1_call0_v26 : StableHlo.TRef sig ⟨S64x4097, .i32⟩) xori
  , StableHlo.TRef.binary (.of main_call1_call0_v20 : StableHlo.TRef sig ⟨S64x4097, .i32⟩) (.of main_call1_call0_v26 : StableHlo.TRef sig ⟨S64x4097, .i32⟩) (.of main_call1_call0_v27 : StableHlo.TRef sig ⟨S64x4097, .i32⟩) addi
  , StableHlo.TRef.nullary (.of main_call1_call0_c_6 : StableHlo.TRef sig ⟨S_, .i32⟩) (constantI S_ 32 6#32)
  , StableHlo.TRef.unary (.of main_call1_call0_c_6 : StableHlo.TRef sig ⟨S_, .i32⟩) (.of main_call1_call0_v28 : StableHlo.TRef sig ⟨S64x4097, .i32⟩) (broadcastInDim S64x4097 ![] bcast_S_S64x4097)
  , StableHlo.TRef.binary (.of main_call1_call0_v26 : StableHlo.TRef sig ⟨S64x4097, .i32⟩) (.of main_call1_call0_v28 : StableHlo.TRef sig ⟨S64x4097, .i32⟩) (.of main_call1_call0_v29 : StableHlo.TRef sig ⟨S64x4097, .i32⟩) Host.shli
  , StableHlo.TRef.nullary (.of main_call1_call0_c_7 : StableHlo.TRef sig ⟨S_, .i32⟩) (constantI S_ 32 26#32)
  , StableHlo.TRef.unary (.of main_call1_call0_c_7 : StableHlo.TRef sig ⟨S_, .i32⟩) (.of main_call1_call0_v30 : StableHlo.TRef sig ⟨S64x4097, .i32⟩) (broadcastInDim S64x4097 ![] bcast_S_S64x4097)
  , StableHlo.TRef.binary (.of main_call1_call0_v26 : StableHlo.TRef sig ⟨S64x4097, .i32⟩) (.of main_call1_call0_v30 : StableHlo.TRef sig ⟨S64x4097, .i32⟩) (.of main_call1_call0_v31 : StableHlo.TRef sig ⟨S64x4097, .i32⟩) Host.shrui
  , StableHlo.TRef.binary (.of main_call1_call0_v29 : StableHlo.TRef sig ⟨S64x4097, .i32⟩) (.of main_call1_call0_v31 : StableHlo.TRef sig ⟨S64x4097, .i32⟩) (.of main_call1_call0_v32 : StableHlo.TRef sig ⟨S64x4097, .i32⟩) ori
  , StableHlo.TRef.binary (.of main_call1_call0_v27 : StableHlo.TRef sig ⟨S64x4097, .i32⟩) (.of main_call1_call0_v32 : StableHlo.TRef sig ⟨S64x4097, .i32⟩) (.of main_call1_call0_v33 : StableHlo.TRef sig ⟨S64x4097, .i32⟩) xori
  , StableHlo.TRef.unary (.of main_call1_v7 : StableHlo.TRef sig ⟨S_, .i32⟩) (.of main_call1_call0_v34 : StableHlo.TRef sig ⟨S64x4097, .i32⟩) (broadcastInDim S64x4097 ![] bcast_S_S64x4097)
  , StableHlo.TRef.binary (.of main_call1_call0_v27 : StableHlo.TRef sig ⟨S64x4097, .i32⟩) (.of main_call1_call0_v34 : StableHlo.TRef sig ⟨S64x4097, .i32⟩) (.of main_call1_call0_v35 : StableHlo.TRef sig ⟨S64x4097, .i32⟩) addi
  , StableHlo.TRef.unary (.of main_call1_call0_v1 : StableHlo.TRef sig ⟨S_, .i32⟩) (.of main_call1_call0_v36 : StableHlo.TRef sig ⟨S64x4097, .i32⟩) (broadcastInDim S64x4097 ![] bcast_S_S64x4097)
  , StableHlo.TRef.binary (.of main_call1_call0_v33 : StableHlo.TRef sig ⟨S64x4097, .i32⟩) (.of main_call1_call0_v36 : StableHlo.TRef sig ⟨S64x4097, .i32⟩) (.of main_call1_call0_v37 : StableHlo.TRef sig ⟨S64x4097, .i32⟩) addi
  , StableHlo.TRef.nullary (.of main_call1_call0_c_8 : StableHlo.TRef sig ⟨S_, .i32⟩) (constantI S_ 32 1#32)
  , StableHlo.TRef.unary (.of main_call1_call0_c_8 : StableHlo.TRef sig ⟨S_, .i32⟩) (.of main_call1_call0_v38 : StableHlo.TRef sig ⟨S64x4097, .i32⟩) (broadcastInDim S64x4097 ![] bcast_S_S64x4097)
  , StableHlo.TRef.binary (.of main_call1_call0_v37 : StableHlo.TRef sig ⟨S64x4097, .i32⟩) (.of main_call1_call0_v38 : StableHlo.TRef sig ⟨S64x4097, .i32⟩) (.of main_call1_call0_v39 : StableHlo.TRef sig ⟨S64x4097, .i32⟩) addi
  , StableHlo.TRef.binary (.of main_call1_call0_v35 : StableHlo.TRef sig ⟨S64x4097, .i32⟩) (.of main_call1_call0_v39 : StableHlo.TRef sig ⟨S64x4097, .i32⟩) (.of main_call1_call0_v40 : StableHlo.TRef sig ⟨S64x4097, .i32⟩) addi
  , StableHlo.TRef.nullary (.of main_call1_call0_c_9 : StableHlo.TRef sig ⟨S_, .i32⟩) (constantI S_ 32 17#32)
  , StableHlo.TRef.unary (.of main_call1_call0_c_9 : StableHlo.TRef sig ⟨S_, .i32⟩) (.of main_call1_call0_v41 : StableHlo.TRef sig ⟨S64x4097, .i32⟩) (broadcastInDim S64x4097 ![] bcast_S_S64x4097)
  , StableHlo.TRef.binary (.of main_call1_call0_v39 : StableHlo.TRef sig ⟨S64x4097, .i32⟩) (.of main_call1_call0_v41 : StableHlo.TRef sig ⟨S64x4097, .i32⟩) (.of main_call1_call0_v42 : StableHlo.TRef sig ⟨S64x4097, .i32⟩) Host.shli
  , StableHlo.TRef.nullary (.of main_call1_call0_c_10 : StableHlo.TRef sig ⟨S_, .i32⟩) (constantI S_ 32 15#32)
  , StableHlo.TRef.unary (.of main_call1_call0_c_10 : StableHlo.TRef sig ⟨S_, .i32⟩) (.of main_call1_call0_v43 : StableHlo.TRef sig ⟨S64x4097, .i32⟩) (broadcastInDim S64x4097 ![] bcast_S_S64x4097)
  , StableHlo.TRef.binary (.of main_call1_call0_v39 : StableHlo.TRef sig ⟨S64x4097, .i32⟩) (.of main_call1_call0_v43 : StableHlo.TRef sig ⟨S64x4097, .i32⟩) (.of main_call1_call0_v44 : StableHlo.TRef sig ⟨S64x4097, .i32⟩) Host.shrui
  , StableHlo.TRef.binary (.of main_call1_call0_v42 : StableHlo.TRef sig ⟨S64x4097, .i32⟩) (.of main_call1_call0_v44 : StableHlo.TRef sig ⟨S64x4097, .i32⟩) (.of main_call1_call0_v45 : StableHlo.TRef sig ⟨S64x4097, .i32⟩) ori
  , StableHlo.TRef.binary (.of main_call1_call0_v40 : StableHlo.TRef sig ⟨S64x4097, .i32⟩) (.of main_call1_call0_v45 : StableHlo.TRef sig ⟨S64x4097, .i32⟩) (.of main_call1_call0_v46 : StableHlo.TRef sig ⟨S64x4097, .i32⟩) xori
  , StableHlo.TRef.binary (.of main_call1_call0_v40 : StableHlo.TRef sig ⟨S64x4097, .i32⟩) (.of main_call1_call0_v46 : StableHlo.TRef sig ⟨S64x4097, .i32⟩) (.of main_call1_call0_v47 : StableHlo.TRef sig ⟨S64x4097, .i32⟩) addi
  , StableHlo.TRef.nullary (.of main_call1_call0_c_11 : StableHlo.TRef sig ⟨S_, .i32⟩) (constantI S_ 32 29#32)
  , StableHlo.TRef.unary (.of main_call1_call0_c_11 : StableHlo.TRef sig ⟨S_, .i32⟩) (.of main_call1_call0_v48 : StableHlo.TRef sig ⟨S64x4097, .i32⟩) (broadcastInDim S64x4097 ![] bcast_S_S64x4097)
  , StableHlo.TRef.binary (.of main_call1_call0_v46 : StableHlo.TRef sig ⟨S64x4097, .i32⟩) (.of main_call1_call0_v48 : StableHlo.TRef sig ⟨S64x4097, .i32⟩) (.of main_call1_call0_v49 : StableHlo.TRef sig ⟨S64x4097, .i32⟩) Host.shli
  , StableHlo.TRef.nullary (.of main_call1_call0_c_12 : StableHlo.TRef sig ⟨S_, .i32⟩) (constantI S_ 32 3#32)
  , StableHlo.TRef.unary (.of main_call1_call0_c_12 : StableHlo.TRef sig ⟨S_, .i32⟩) (.of main_call1_call0_v50 : StableHlo.TRef sig ⟨S64x4097, .i32⟩) (broadcastInDim S64x4097 ![] bcast_S_S64x4097)
  , StableHlo.TRef.binary (.of main_call1_call0_v46 : StableHlo.TRef sig ⟨S64x4097, .i32⟩) (.of main_call1_call0_v50 : StableHlo.TRef sig ⟨S64x4097, .i32⟩) (.of main_call1_call0_v51 : StableHlo.TRef sig ⟨S64x4097, .i32⟩) Host.shrui
  , StableHlo.TRef.binary (.of main_call1_call0_v49 : StableHlo.TRef sig ⟨S64x4097, .i32⟩) (.of main_call1_call0_v51 : StableHlo.TRef sig ⟨S64x4097, .i32⟩) (.of main_call1_call0_v52 : StableHlo.TRef sig ⟨S64x4097, .i32⟩) ori
  , StableHlo.TRef.binary (.of main_call1_call0_v47 : StableHlo.TRef sig ⟨S64x4097, .i32⟩) (.of main_call1_call0_v52 : StableHlo.TRef sig ⟨S64x4097, .i32⟩) (.of main_call1_call0_v53 : StableHlo.TRef sig ⟨S64x4097, .i32⟩) xori
  , StableHlo.TRef.binary (.of main_call1_call0_v47 : StableHlo.TRef sig ⟨S64x4097, .i32⟩) (.of main_call1_call0_v53 : StableHlo.TRef sig ⟨S64x4097, .i32⟩) (.of main_call1_call0_v54 : StableHlo.TRef sig ⟨S64x4097, .i32⟩) addi
  , StableHlo.TRef.nullary (.of main_call1_call0_c_13 : StableHlo.TRef sig ⟨S_, .i32⟩) (constantI S_ 32 16#32)
  , StableHlo.TRef.unary (.of main_call1_call0_c_13 : StableHlo.TRef sig ⟨S_, .i32⟩) (.of main_call1_call0_v55 : StableHlo.TRef sig ⟨S64x4097, .i32⟩) (broadcastInDim S64x4097 ![] bcast_S_S64x4097)
  , StableHlo.TRef.binary (.of main_call1_call0_v53 : StableHlo.TRef sig ⟨S64x4097, .i32⟩) (.of main_call1_call0_v55 : StableHlo.TRef sig ⟨S64x4097, .i32⟩) (.of main_call1_call0_v56 : StableHlo.TRef sig ⟨S64x4097, .i32⟩) Host.shli
  , StableHlo.TRef.nullary (.of main_call1_call0_c_14 : StableHlo.TRef sig ⟨S_, .i32⟩) (constantI S_ 32 16#32)
  , StableHlo.TRef.unary (.of main_call1_call0_c_14 : StableHlo.TRef sig ⟨S_, .i32⟩) (.of main_call1_call0_v57 : StableHlo.TRef sig ⟨S64x4097, .i32⟩) (broadcastInDim S64x4097 ![] bcast_S_S64x4097)
  , StableHlo.TRef.binary (.of main_call1_call0_v53 : StableHlo.TRef sig ⟨S64x4097, .i32⟩) (.of main_call1_call0_v57 : StableHlo.TRef sig ⟨S64x4097, .i32⟩) (.of main_call1_call0_v58 : StableHlo.TRef sig ⟨S64x4097, .i32⟩) Host.shrui
  , StableHlo.TRef.binary (.of main_call1_call0_v56 : StableHlo.TRef sig ⟨S64x4097, .i32⟩) (.of main_call1_call0_v58 : StableHlo.TRef sig ⟨S64x4097, .i32⟩) (.of main_call1_call0_v59 : StableHlo.TRef sig ⟨S64x4097, .i32⟩) ori
  , StableHlo.TRef.binary (.of main_call1_call0_v54 : StableHlo.TRef sig ⟨S64x4097, .i32⟩) (.of main_call1_call0_v59 : StableHlo.TRef sig ⟨S64x4097, .i32⟩) (.of main_call1_call0_v60 : StableHlo.TRef sig ⟨S64x4097, .i32⟩) xori
  , StableHlo.TRef.binary (.of main_call1_call0_v54 : StableHlo.TRef sig ⟨S64x4097, .i32⟩) (.of main_call1_call0_v60 : StableHlo.TRef sig ⟨S64x4097, .i32⟩) (.of main_call1_call0_v61 : StableHlo.TRef sig ⟨S64x4097, .i32⟩) addi
  , StableHlo.TRef.nullary (.of main_call1_call0_c_15 : StableHlo.TRef sig ⟨S_, .i32⟩) (constantI S_ 32 24#32)
  , StableHlo.TRef.unary (.of main_call1_call0_c_15 : StableHlo.TRef sig ⟨S_, .i32⟩) (.of main_call1_call0_v62 : StableHlo.TRef sig ⟨S64x4097, .i32⟩) (broadcastInDim S64x4097 ![] bcast_S_S64x4097)
  , StableHlo.TRef.binary (.of main_call1_call0_v60 : StableHlo.TRef sig ⟨S64x4097, .i32⟩) (.of main_call1_call0_v62 : StableHlo.TRef sig ⟨S64x4097, .i32⟩) (.of main_call1_call0_v63 : StableHlo.TRef sig ⟨S64x4097, .i32⟩) Host.shli
  , StableHlo.TRef.nullary (.of main_call1_call0_c_16 : StableHlo.TRef sig ⟨S_, .i32⟩) (constantI S_ 32 8#32)
  , StableHlo.TRef.unary (.of main_call1_call0_c_16 : StableHlo.TRef sig ⟨S_, .i32⟩) (.of main_call1_call0_v64 : StableHlo.TRef sig ⟨S64x4097, .i32⟩) (broadcastInDim S64x4097 ![] bcast_S_S64x4097)
  , StableHlo.TRef.binary (.of main_call1_call0_v60 : StableHlo.TRef sig ⟨S64x4097, .i32⟩) (.of main_call1_call0_v64 : StableHlo.TRef sig ⟨S64x4097, .i32⟩) (.of main_call1_call0_v65 : StableHlo.TRef sig ⟨S64x4097, .i32⟩) Host.shrui
  , StableHlo.TRef.binary (.of main_call1_call0_v63 : StableHlo.TRef sig ⟨S64x4097, .i32⟩) (.of main_call1_call0_v65 : StableHlo.TRef sig ⟨S64x4097, .i32⟩) (.of main_call1_call0_v66 : StableHlo.TRef sig ⟨S64x4097, .i32⟩) ori
  , StableHlo.TRef.binary (.of main_call1_call0_v61 : StableHlo.TRef sig ⟨S64x4097, .i32⟩) (.of main_call1_call0_v66 : StableHlo.TRef sig ⟨S64x4097, .i32⟩) (.of main_call1_call0_v67 : StableHlo.TRef sig ⟨S64x4097, .i32⟩) xori
  , StableHlo.TRef.unary (.of main_call1_call0_v1 : StableHlo.TRef sig ⟨S_, .i32⟩) (.of main_call1_call0_v68 : StableHlo.TRef sig ⟨S64x4097, .i32⟩) (broadcastInDim S64x4097 ![] bcast_S_S64x4097)
  , StableHlo.TRef.binary (.of main_call1_call0_v61 : StableHlo.TRef sig ⟨S64x4097, .i32⟩) (.of main_call1_call0_v68 : StableHlo.TRef sig ⟨S64x4097, .i32⟩) (.of main_call1_call0_v69 : StableHlo.TRef sig ⟨S64x4097, .i32⟩) addi
  , StableHlo.TRef.unary (.of main_call1_v5 : StableHlo.TRef sig ⟨S_, .i32⟩) (.of main_call1_call0_v70 : StableHlo.TRef sig ⟨S64x4097, .i32⟩) (broadcastInDim S64x4097 ![] bcast_S_S64x4097)
  , StableHlo.TRef.binary (.of main_call1_call0_v67 : StableHlo.TRef sig ⟨S64x4097, .i32⟩) (.of main_call1_call0_v70 : StableHlo.TRef sig ⟨S64x4097, .i32⟩) (.of main_call1_call0_v71 : StableHlo.TRef sig ⟨S64x4097, .i32⟩) addi
  , StableHlo.TRef.nullary (.of main_call1_call0_c_17 : StableHlo.TRef sig ⟨S_, .i32⟩) (constantI S_ 32 2#32)
  , StableHlo.TRef.unary (.of main_call1_call0_c_17 : StableHlo.TRef sig ⟨S_, .i32⟩) (.of main_call1_call0_v72 : StableHlo.TRef sig ⟨S64x4097, .i32⟩) (broadcastInDim S64x4097 ![] bcast_S_S64x4097)
  , StableHlo.TRef.binary (.of main_call1_call0_v71 : StableHlo.TRef sig ⟨S64x4097, .i32⟩) (.of main_call1_call0_v72 : StableHlo.TRef sig ⟨S64x4097, .i32⟩) (.of main_call1_call0_v73 : StableHlo.TRef sig ⟨S64x4097, .i32⟩) addi
  , StableHlo.TRef.binary (.of main_call1_call0_v69 : StableHlo.TRef sig ⟨S64x4097, .i32⟩) (.of main_call1_call0_v73 : StableHlo.TRef sig ⟨S64x4097, .i32⟩) (.of main_call1_call0_v74 : StableHlo.TRef sig ⟨S64x4097, .i32⟩) addi
  , StableHlo.TRef.nullary (.of main_call1_call0_c_18 : StableHlo.TRef sig ⟨S_, .i32⟩) (constantI S_ 32 13#32)
  , StableHlo.TRef.unary (.of main_call1_call0_c_18 : StableHlo.TRef sig ⟨S_, .i32⟩) (.of main_call1_call0_v75 : StableHlo.TRef sig ⟨S64x4097, .i32⟩) (broadcastInDim S64x4097 ![] bcast_S_S64x4097)
  , StableHlo.TRef.binary (.of main_call1_call0_v73 : StableHlo.TRef sig ⟨S64x4097, .i32⟩) (.of main_call1_call0_v75 : StableHlo.TRef sig ⟨S64x4097, .i32⟩) (.of main_call1_call0_v76 : StableHlo.TRef sig ⟨S64x4097, .i32⟩) Host.shli
  , StableHlo.TRef.nullary (.of main_call1_call0_c_19 : StableHlo.TRef sig ⟨S_, .i32⟩) (constantI S_ 32 19#32)
  , StableHlo.TRef.unary (.of main_call1_call0_c_19 : StableHlo.TRef sig ⟨S_, .i32⟩) (.of main_call1_call0_v77 : StableHlo.TRef sig ⟨S64x4097, .i32⟩) (broadcastInDim S64x4097 ![] bcast_S_S64x4097)
  , StableHlo.TRef.binary (.of main_call1_call0_v73 : StableHlo.TRef sig ⟨S64x4097, .i32⟩) (.of main_call1_call0_v77 : StableHlo.TRef sig ⟨S64x4097, .i32⟩) (.of main_call1_call0_v78 : StableHlo.TRef sig ⟨S64x4097, .i32⟩) Host.shrui
  , StableHlo.TRef.binary (.of main_call1_call0_v76 : StableHlo.TRef sig ⟨S64x4097, .i32⟩) (.of main_call1_call0_v78 : StableHlo.TRef sig ⟨S64x4097, .i32⟩) (.of main_call1_call0_v79 : StableHlo.TRef sig ⟨S64x4097, .i32⟩) ori
  , StableHlo.TRef.binary (.of main_call1_call0_v74 : StableHlo.TRef sig ⟨S64x4097, .i32⟩) (.of main_call1_call0_v79 : StableHlo.TRef sig ⟨S64x4097, .i32⟩) (.of main_call1_call0_v80 : StableHlo.TRef sig ⟨S64x4097, .i32⟩) xori
  , StableHlo.TRef.binary (.of main_call1_call0_v74 : StableHlo.TRef sig ⟨S64x4097, .i32⟩) (.of main_call1_call0_v80 : StableHlo.TRef sig ⟨S64x4097, .i32⟩) (.of main_call1_call0_v81 : StableHlo.TRef sig ⟨S64x4097, .i32⟩) addi
  , StableHlo.TRef.nullary (.of main_call1_call0_c_20 : StableHlo.TRef sig ⟨S_, .i32⟩) (constantI S_ 32 15#32)
  , StableHlo.TRef.unary (.of main_call1_call0_c_20 : StableHlo.TRef sig ⟨S_, .i32⟩) (.of main_call1_call0_v82 : StableHlo.TRef sig ⟨S64x4097, .i32⟩) (broadcastInDim S64x4097 ![] bcast_S_S64x4097)
  , StableHlo.TRef.binary (.of main_call1_call0_v80 : StableHlo.TRef sig ⟨S64x4097, .i32⟩) (.of main_call1_call0_v82 : StableHlo.TRef sig ⟨S64x4097, .i32⟩) (.of main_call1_call0_v83 : StableHlo.TRef sig ⟨S64x4097, .i32⟩) Host.shli
  , StableHlo.TRef.nullary (.of main_call1_call0_c_21 : StableHlo.TRef sig ⟨S_, .i32⟩) (constantI S_ 32 17#32)
  , StableHlo.TRef.unary (.of main_call1_call0_c_21 : StableHlo.TRef sig ⟨S_, .i32⟩) (.of main_call1_call0_v84 : StableHlo.TRef sig ⟨S64x4097, .i32⟩) (broadcastInDim S64x4097 ![] bcast_S_S64x4097)
  , StableHlo.TRef.binary (.of main_call1_call0_v80 : StableHlo.TRef sig ⟨S64x4097, .i32⟩) (.of main_call1_call0_v84 : StableHlo.TRef sig ⟨S64x4097, .i32⟩) (.of main_call1_call0_v85 : StableHlo.TRef sig ⟨S64x4097, .i32⟩) Host.shrui
  , StableHlo.TRef.binary (.of main_call1_call0_v83 : StableHlo.TRef sig ⟨S64x4097, .i32⟩) (.of main_call1_call0_v85 : StableHlo.TRef sig ⟨S64x4097, .i32⟩) (.of main_call1_call0_v86 : StableHlo.TRef sig ⟨S64x4097, .i32⟩) ori
  , StableHlo.TRef.binary (.of main_call1_call0_v81 : StableHlo.TRef sig ⟨S64x4097, .i32⟩) (.of main_call1_call0_v86 : StableHlo.TRef sig ⟨S64x4097, .i32⟩) (.of main_call1_call0_v87 : StableHlo.TRef sig ⟨S64x4097, .i32⟩) xori
  , StableHlo.TRef.binary (.of main_call1_call0_v81 : StableHlo.TRef sig ⟨S64x4097, .i32⟩) (.of main_call1_call0_v87 : StableHlo.TRef sig ⟨S64x4097, .i32⟩) (.of main_call1_call0_v88 : StableHlo.TRef sig ⟨S64x4097, .i32⟩) addi
  , StableHlo.TRef.nullary (.of main_call1_call0_c_22 : StableHlo.TRef sig ⟨S_, .i32⟩) (constantI S_ 32 26#32)
  , StableHlo.TRef.unary (.of main_call1_call0_c_22 : StableHlo.TRef sig ⟨S_, .i32⟩) (.of main_call1_call0_v89 : StableHlo.TRef sig ⟨S64x4097, .i32⟩) (broadcastInDim S64x4097 ![] bcast_S_S64x4097)
  , StableHlo.TRef.binary (.of main_call1_call0_v87 : StableHlo.TRef sig ⟨S64x4097, .i32⟩) (.of main_call1_call0_v89 : StableHlo.TRef sig ⟨S64x4097, .i32⟩) (.of main_call1_call0_v90 : StableHlo.TRef sig ⟨S64x4097, .i32⟩) Host.shli
  , StableHlo.TRef.nullary (.of main_call1_call0_c_23 : StableHlo.TRef sig ⟨S_, .i32⟩) (constantI S_ 32 6#32)
  , StableHlo.TRef.unary (.of main_call1_call0_c_23 : StableHlo.TRef sig ⟨S_, .i32⟩) (.of main_call1_call0_v91 : StableHlo.TRef sig ⟨S64x4097, .i32⟩) (broadcastInDim S64x4097 ![] bcast_S_S64x4097)
  , StableHlo.TRef.binary (.of main_call1_call0_v87 : StableHlo.TRef sig ⟨S64x4097, .i32⟩) (.of main_call1_call0_v91 : StableHlo.TRef sig ⟨S64x4097, .i32⟩) (.of main_call1_call0_v92 : StableHlo.TRef sig ⟨S64x4097, .i32⟩) Host.shrui
  , StableHlo.TRef.binary (.of main_call1_call0_v90 : StableHlo.TRef sig ⟨S64x4097, .i32⟩) (.of main_call1_call0_v92 : StableHlo.TRef sig ⟨S64x4097, .i32⟩) (.of main_call1_call0_v93 : StableHlo.TRef sig ⟨S64x4097, .i32⟩) ori
  , StableHlo.TRef.binary (.of main_call1_call0_v88 : StableHlo.TRef sig ⟨S64x4097, .i32⟩) (.of main_call1_call0_v93 : StableHlo.TRef sig ⟨S64x4097, .i32⟩) (.of main_call1_call0_v94 : StableHlo.TRef sig ⟨S64x4097, .i32⟩) xori
  , StableHlo.TRef.binary (.of main_call1_call0_v88 : StableHlo.TRef sig ⟨S64x4097, .i32⟩) (.of main_call1_call0_v94 : StableHlo.TRef sig ⟨S64x4097, .i32⟩) (.of main_call1_call0_v95 : StableHlo.TRef sig ⟨S64x4097, .i32⟩) addi
  , StableHlo.TRef.nullary (.of main_call1_call0_c_24 : StableHlo.TRef sig ⟨S_, .i32⟩) (constantI S_ 32 6#32)
  , StableHlo.TRef.unary (.of main_call1_call0_c_24 : StableHlo.TRef sig ⟨S_, .i32⟩) (.of main_call1_call0_v96 : StableHlo.TRef sig ⟨S64x4097, .i32⟩) (broadcastInDim S64x4097 ![] bcast_S_S64x4097)
  , StableHlo.TRef.binary (.of main_call1_call0_v94 : StableHlo.TRef sig ⟨S64x4097, .i32⟩) (.of main_call1_call0_v96 : StableHlo.TRef sig ⟨S64x4097, .i32⟩) (.of main_call1_call0_v97 : StableHlo.TRef sig ⟨S64x4097, .i32⟩) Host.shli
  , StableHlo.TRef.nullary (.of main_call1_call0_c_25 : StableHlo.TRef sig ⟨S_, .i32⟩) (constantI S_ 32 26#32)
  , StableHlo.TRef.unary (.of main_call1_call0_c_25 : StableHlo.TRef sig ⟨S_, .i32⟩) (.of main_call1_call0_v98 : StableHlo.TRef sig ⟨S64x4097, .i32⟩) (broadcastInDim S64x4097 ![] bcast_S_S64x4097)
  , StableHlo.TRef.binary (.of main_call1_call0_v94 : StableHlo.TRef sig ⟨S64x4097, .i32⟩) (.of main_call1_call0_v98 : StableHlo.TRef sig ⟨S64x4097, .i32⟩) (.of main_call1_call0_v99 : StableHlo.TRef sig ⟨S64x4097, .i32⟩) Host.shrui
  , StableHlo.TRef.binary (.of main_call1_call0_v97 : StableHlo.TRef sig ⟨S64x4097, .i32⟩) (.of main_call1_call0_v99 : StableHlo.TRef sig ⟨S64x4097, .i32⟩) (.of main_call1_call0_v100 : StableHlo.TRef sig ⟨S64x4097, .i32⟩) ori
  , StableHlo.TRef.binary (.of main_call1_call0_v95 : StableHlo.TRef sig ⟨S64x4097, .i32⟩) (.of main_call1_call0_v100 : StableHlo.TRef sig ⟨S64x4097, .i32⟩) (.of main_call1_call0_v101 : StableHlo.TRef sig ⟨S64x4097, .i32⟩) xori
  , StableHlo.TRef.unary (.of main_call1_v5 : StableHlo.TRef sig ⟨S_, .i32⟩) (.of main_call1_call0_v102 : StableHlo.TRef sig ⟨S64x4097, .i32⟩) (broadcastInDim S64x4097 ![] bcast_S_S64x4097)
  , StableHlo.TRef.binary (.of main_call1_call0_v95 : StableHlo.TRef sig ⟨S64x4097, .i32⟩) (.of main_call1_call0_v102 : StableHlo.TRef sig ⟨S64x4097, .i32⟩) (.of main_call1_call0_v103 : StableHlo.TRef sig ⟨S64x4097, .i32⟩) addi
  , StableHlo.TRef.unary (.of main_call1_v7 : StableHlo.TRef sig ⟨S_, .i32⟩) (.of main_call1_call0_v104 : StableHlo.TRef sig ⟨S64x4097, .i32⟩) (broadcastInDim S64x4097 ![] bcast_S_S64x4097)
  , StableHlo.TRef.binary (.of main_call1_call0_v101 : StableHlo.TRef sig ⟨S64x4097, .i32⟩) (.of main_call1_call0_v104 : StableHlo.TRef sig ⟨S64x4097, .i32⟩) (.of main_call1_call0_v105 : StableHlo.TRef sig ⟨S64x4097, .i32⟩) addi
  , StableHlo.TRef.nullary (.of main_call1_call0_c_26 : StableHlo.TRef sig ⟨S_, .i32⟩) (constantI S_ 32 3#32)
  , StableHlo.TRef.unary (.of main_call1_call0_c_26 : StableHlo.TRef sig ⟨S_, .i32⟩) (.of main_call1_call0_v106 : StableHlo.TRef sig ⟨S64x4097, .i32⟩) (broadcastInDim S64x4097 ![] bcast_S_S64x4097)
  , StableHlo.TRef.binary (.of main_call1_call0_v105 : StableHlo.TRef sig ⟨S64x4097, .i32⟩) (.of main_call1_call0_v106 : StableHlo.TRef sig ⟨S64x4097, .i32⟩) (.of main_call1_call0_v107 : StableHlo.TRef sig ⟨S64x4097, .i32⟩) addi
  , StableHlo.TRef.binary (.of main_call1_call0_v103 : StableHlo.TRef sig ⟨S64x4097, .i32⟩) (.of main_call1_call0_v107 : StableHlo.TRef sig ⟨S64x4097, .i32⟩) (.of main_call1_call0_v108 : StableHlo.TRef sig ⟨S64x4097, .i32⟩) addi
  , StableHlo.TRef.nullary (.of main_call1_call0_c_27 : StableHlo.TRef sig ⟨S_, .i32⟩) (constantI S_ 32 17#32)
  , StableHlo.TRef.unary (.of main_call1_call0_c_27 : StableHlo.TRef sig ⟨S_, .i32⟩) (.of main_call1_call0_v109 : StableHlo.TRef sig ⟨S64x4097, .i32⟩) (broadcastInDim S64x4097 ![] bcast_S_S64x4097)
  , StableHlo.TRef.binary (.of main_call1_call0_v107 : StableHlo.TRef sig ⟨S64x4097, .i32⟩) (.of main_call1_call0_v109 : StableHlo.TRef sig ⟨S64x4097, .i32⟩) (.of main_call1_call0_v110 : StableHlo.TRef sig ⟨S64x4097, .i32⟩) Host.shli
  , StableHlo.TRef.nullary (.of main_call1_call0_c_28 : StableHlo.TRef sig ⟨S_, .i32⟩) (constantI S_ 32 15#32)
  , StableHlo.TRef.unary (.of main_call1_call0_c_28 : StableHlo.TRef sig ⟨S_, .i32⟩) (.of main_call1_call0_v111 : StableHlo.TRef sig ⟨S64x4097, .i32⟩) (broadcastInDim S64x4097 ![] bcast_S_S64x4097)
  , StableHlo.TRef.binary (.of main_call1_call0_v107 : StableHlo.TRef sig ⟨S64x4097, .i32⟩) (.of main_call1_call0_v111 : StableHlo.TRef sig ⟨S64x4097, .i32⟩) (.of main_call1_call0_v112 : StableHlo.TRef sig ⟨S64x4097, .i32⟩) Host.shrui
  , StableHlo.TRef.binary (.of main_call1_call0_v110 : StableHlo.TRef sig ⟨S64x4097, .i32⟩) (.of main_call1_call0_v112 : StableHlo.TRef sig ⟨S64x4097, .i32⟩) (.of main_call1_call0_v113 : StableHlo.TRef sig ⟨S64x4097, .i32⟩) ori
  , StableHlo.TRef.binary (.of main_call1_call0_v108 : StableHlo.TRef sig ⟨S64x4097, .i32⟩) (.of main_call1_call0_v113 : StableHlo.TRef sig ⟨S64x4097, .i32⟩) (.of main_call1_call0_v114 : StableHlo.TRef sig ⟨S64x4097, .i32⟩) xori
  , StableHlo.TRef.binary (.of main_call1_call0_v108 : StableHlo.TRef sig ⟨S64x4097, .i32⟩) (.of main_call1_call0_v114 : StableHlo.TRef sig ⟨S64x4097, .i32⟩) (.of main_call1_call0_v115 : StableHlo.TRef sig ⟨S64x4097, .i32⟩) addi
  , StableHlo.TRef.nullary (.of main_call1_call0_c_29 : StableHlo.TRef sig ⟨S_, .i32⟩) (constantI S_ 32 29#32)
  , StableHlo.TRef.unary (.of main_call1_call0_c_29 : StableHlo.TRef sig ⟨S_, .i32⟩) (.of main_call1_call0_v116 : StableHlo.TRef sig ⟨S64x4097, .i32⟩) (broadcastInDim S64x4097 ![] bcast_S_S64x4097)
  , StableHlo.TRef.binary (.of main_call1_call0_v114 : StableHlo.TRef sig ⟨S64x4097, .i32⟩) (.of main_call1_call0_v116 : StableHlo.TRef sig ⟨S64x4097, .i32⟩) (.of main_call1_call0_v117 : StableHlo.TRef sig ⟨S64x4097, .i32⟩) Host.shli
  , StableHlo.TRef.nullary (.of main_call1_call0_c_30 : StableHlo.TRef sig ⟨S_, .i32⟩) (constantI S_ 32 3#32)
  , StableHlo.TRef.unary (.of main_call1_call0_c_30 : StableHlo.TRef sig ⟨S_, .i32⟩) (.of main_call1_call0_v118 : StableHlo.TRef sig ⟨S64x4097, .i32⟩) (broadcastInDim S64x4097 ![] bcast_S_S64x4097)
  , StableHlo.TRef.binary (.of main_call1_call0_v114 : StableHlo.TRef sig ⟨S64x4097, .i32⟩) (.of main_call1_call0_v118 : StableHlo.TRef sig ⟨S64x4097, .i32⟩) (.of main_call1_call0_v119 : StableHlo.TRef sig ⟨S64x4097, .i32⟩) Host.shrui
  , StableHlo.TRef.binary (.of main_call1_call0_v117 : StableHlo.TRef sig ⟨S64x4097, .i32⟩) (.of main_call1_call0_v119 : StableHlo.TRef sig ⟨S64x4097, .i32⟩) (.of main_call1_call0_v120 : StableHlo.TRef sig ⟨S64x4097, .i32⟩) ori
  , StableHlo.TRef.binary (.of main_call1_call0_v115 : StableHlo.TRef sig ⟨S64x4097, .i32⟩) (.of main_call1_call0_v120 : StableHlo.TRef sig ⟨S64x4097, .i32⟩) (.of main_call1_call0_v121 : StableHlo.TRef sig ⟨S64x4097, .i32⟩) xori
  , StableHlo.TRef.binary (.of main_call1_call0_v115 : StableHlo.TRef sig ⟨S64x4097, .i32⟩) (.of main_call1_call0_v121 : StableHlo.TRef sig ⟨S64x4097, .i32⟩) (.of main_call1_call0_v122 : StableHlo.TRef sig ⟨S64x4097, .i32⟩) addi
  , StableHlo.TRef.nullary (.of main_call1_call0_c_31 : StableHlo.TRef sig ⟨S_, .i32⟩) (constantI S_ 32 16#32)
  , StableHlo.TRef.unary (.of main_call1_call0_c_31 : StableHlo.TRef sig ⟨S_, .i32⟩) (.of main_call1_call0_v123 : StableHlo.TRef sig ⟨S64x4097, .i32⟩) (broadcastInDim S64x4097 ![] bcast_S_S64x4097)
  , StableHlo.TRef.binary (.of main_call1_call0_v121 : StableHlo.TRef sig ⟨S64x4097, .i32⟩) (.of main_call1_call0_v123 : StableHlo.TRef sig ⟨S64x4097, .i32⟩) (.of main_call1_call0_v124 : StableHlo.TRef sig ⟨S64x4097, .i32⟩) Host.shli
  , StableHlo.TRef.nullary (.of main_call1_call0_c_32 : StableHlo.TRef sig ⟨S_, .i32⟩) (constantI S_ 32 16#32)
  , StableHlo.TRef.unary (.of main_call1_call0_c_32 : StableHlo.TRef sig ⟨S_, .i32⟩) (.of main_call1_call0_v125 : StableHlo.TRef sig ⟨S64x4097, .i32⟩) (broadcastInDim S64x4097 ![] bcast_S_S64x4097)
  , StableHlo.TRef.binary (.of main_call1_call0_v121 : StableHlo.TRef sig ⟨S64x4097, .i32⟩) (.of main_call1_call0_v125 : StableHlo.TRef sig ⟨S64x4097, .i32⟩) (.of main_call1_call0_v126 : StableHlo.TRef sig ⟨S64x4097, .i32⟩) Host.shrui
  , StableHlo.TRef.binary (.of main_call1_call0_v124 : StableHlo.TRef sig ⟨S64x4097, .i32⟩) (.of main_call1_call0_v126 : StableHlo.TRef sig ⟨S64x4097, .i32⟩) (.of main_call1_call0_v127 : StableHlo.TRef sig ⟨S64x4097, .i32⟩) ori
  , StableHlo.TRef.binary (.of main_call1_call0_v122 : StableHlo.TRef sig ⟨S64x4097, .i32⟩) (.of main_call1_call0_v127 : StableHlo.TRef sig ⟨S64x4097, .i32⟩) (.of main_call1_call0_v128 : StableHlo.TRef sig ⟨S64x4097, .i32⟩) xori
  , StableHlo.TRef.binary (.of main_call1_call0_v122 : StableHlo.TRef sig ⟨S64x4097, .i32⟩) (.of main_call1_call0_v128 : StableHlo.TRef sig ⟨S64x4097, .i32⟩) (.of main_call1_call0_v129 : StableHlo.TRef sig ⟨S64x4097, .i32⟩) addi
  , StableHlo.TRef.nullary (.of main_call1_call0_c_33 : StableHlo.TRef sig ⟨S_, .i32⟩) (constantI S_ 32 24#32)
  , StableHlo.TRef.unary (.of main_call1_call0_c_33 : StableHlo.TRef sig ⟨S_, .i32⟩) (.of main_call1_call0_v130 : StableHlo.TRef sig ⟨S64x4097, .i32⟩) (broadcastInDim S64x4097 ![] bcast_S_S64x4097)
  , StableHlo.TRef.binary (.of main_call1_call0_v128 : StableHlo.TRef sig ⟨S64x4097, .i32⟩) (.of main_call1_call0_v130 : StableHlo.TRef sig ⟨S64x4097, .i32⟩) (.of main_call1_call0_v131 : StableHlo.TRef sig ⟨S64x4097, .i32⟩) Host.shli
  , StableHlo.TRef.nullary (.of main_call1_call0_c_34 : StableHlo.TRef sig ⟨S_, .i32⟩) (constantI S_ 32 8#32)
  , StableHlo.TRef.unary (.of main_call1_call0_c_34 : StableHlo.TRef sig ⟨S_, .i32⟩) (.of main_call1_call0_v132 : StableHlo.TRef sig ⟨S64x4097, .i32⟩) (broadcastInDim S64x4097 ![] bcast_S_S64x4097)
  , StableHlo.TRef.binary (.of main_call1_call0_v128 : StableHlo.TRef sig ⟨S64x4097, .i32⟩) (.of main_call1_call0_v132 : StableHlo.TRef sig ⟨S64x4097, .i32⟩) (.of main_call1_call0_v133 : StableHlo.TRef sig ⟨S64x4097, .i32⟩) Host.shrui
  , StableHlo.TRef.binary (.of main_call1_call0_v131 : StableHlo.TRef sig ⟨S64x4097, .i32⟩) (.of main_call1_call0_v133 : StableHlo.TRef sig ⟨S64x4097, .i32⟩) (.of main_call1_call0_v134 : StableHlo.TRef sig ⟨S64x4097, .i32⟩) ori
  , StableHlo.TRef.binary (.of main_call1_call0_v129 : StableHlo.TRef sig ⟨S64x4097, .i32⟩) (.of main_call1_call0_v134 : StableHlo.TRef sig ⟨S64x4097, .i32⟩) (.of main_call1_call0_v135 : StableHlo.TRef sig ⟨S64x4097, .i32⟩) xori
  , StableHlo.TRef.unary (.of main_call1_v7 : StableHlo.TRef sig ⟨S_, .i32⟩) (.of main_call1_call0_v136 : StableHlo.TRef sig ⟨S64x4097, .i32⟩) (broadcastInDim S64x4097 ![] bcast_S_S64x4097)
  , StableHlo.TRef.binary (.of main_call1_call0_v129 : StableHlo.TRef sig ⟨S64x4097, .i32⟩) (.of main_call1_call0_v136 : StableHlo.TRef sig ⟨S64x4097, .i32⟩) (.of main_call1_call0_v137 : StableHlo.TRef sig ⟨S64x4097, .i32⟩) addi
  , StableHlo.TRef.unary (.of main_call1_call0_v1 : StableHlo.TRef sig ⟨S_, .i32⟩) (.of main_call1_call0_v138 : StableHlo.TRef sig ⟨S64x4097, .i32⟩) (broadcastInDim S64x4097 ![] bcast_S_S64x4097)
  , StableHlo.TRef.binary (.of main_call1_call0_v135 : StableHlo.TRef sig ⟨S64x4097, .i32⟩) (.of main_call1_call0_v138 : StableHlo.TRef sig ⟨S64x4097, .i32⟩) (.of main_call1_call0_v139 : StableHlo.TRef sig ⟨S64x4097, .i32⟩) addi
  , StableHlo.TRef.nullary (.of main_call1_call0_c_35 : StableHlo.TRef sig ⟨S_, .i32⟩) (constantI S_ 32 4#32)
  , StableHlo.TRef.unary (.of main_call1_call0_c_35 : StableHlo.TRef sig ⟨S_, .i32⟩) (.of main_call1_call0_v140 : StableHlo.TRef sig ⟨S64x4097, .i32⟩) (broadcastInDim S64x4097 ![] bcast_S_S64x4097)
  , StableHlo.TRef.binary (.of main_call1_call0_v139 : StableHlo.TRef sig ⟨S64x4097, .i32⟩) (.of main_call1_call0_v140 : StableHlo.TRef sig ⟨S64x4097, .i32⟩) (.of main_call1_call0_v141 : StableHlo.TRef sig ⟨S64x4097, .i32⟩) addi
  , StableHlo.TRef.binary (.of main_call1_call0_v137 : StableHlo.TRef sig ⟨S64x4097, .i32⟩) (.of main_call1_call0_v141 : StableHlo.TRef sig ⟨S64x4097, .i32⟩) (.of main_call1_call0_v142 : StableHlo.TRef sig ⟨S64x4097, .i32⟩) addi
  , StableHlo.TRef.nullary (.of main_call1_call0_c_36 : StableHlo.TRef sig ⟨S_, .i32⟩) (constantI S_ 32 13#32)
  , StableHlo.TRef.unary (.of main_call1_call0_c_36 : StableHlo.TRef sig ⟨S_, .i32⟩) (.of main_call1_call0_v143 : StableHlo.TRef sig ⟨S64x4097, .i32⟩) (broadcastInDim S64x4097 ![] bcast_S_S64x4097)
  , StableHlo.TRef.binary (.of main_call1_call0_v141 : StableHlo.TRef sig ⟨S64x4097, .i32⟩) (.of main_call1_call0_v143 : StableHlo.TRef sig ⟨S64x4097, .i32⟩) (.of main_call1_call0_v144 : StableHlo.TRef sig ⟨S64x4097, .i32⟩) Host.shli
  , StableHlo.TRef.nullary (.of main_call1_call0_c_37 : StableHlo.TRef sig ⟨S_, .i32⟩) (constantI S_ 32 19#32)
  , StableHlo.TRef.unary (.of main_call1_call0_c_37 : StableHlo.TRef sig ⟨S_, .i32⟩) (.of main_call1_call0_v145 : StableHlo.TRef sig ⟨S64x4097, .i32⟩) (broadcastInDim S64x4097 ![] bcast_S_S64x4097)
  , StableHlo.TRef.binary (.of main_call1_call0_v141 : StableHlo.TRef sig ⟨S64x4097, .i32⟩) (.of main_call1_call0_v145 : StableHlo.TRef sig ⟨S64x4097, .i32⟩) (.of main_call1_call0_v146 : StableHlo.TRef sig ⟨S64x4097, .i32⟩) Host.shrui
  , StableHlo.TRef.binary (.of main_call1_call0_v144 : StableHlo.TRef sig ⟨S64x4097, .i32⟩) (.of main_call1_call0_v146 : StableHlo.TRef sig ⟨S64x4097, .i32⟩) (.of main_call1_call0_v147 : StableHlo.TRef sig ⟨S64x4097, .i32⟩) ori
  , StableHlo.TRef.binary (.of main_call1_call0_v142 : StableHlo.TRef sig ⟨S64x4097, .i32⟩) (.of main_call1_call0_v147 : StableHlo.TRef sig ⟨S64x4097, .i32⟩) (.of main_call1_call0_v148 : StableHlo.TRef sig ⟨S64x4097, .i32⟩) xori
  , StableHlo.TRef.binary (.of main_call1_call0_v142 : StableHlo.TRef sig ⟨S64x4097, .i32⟩) (.of main_call1_call0_v148 : StableHlo.TRef sig ⟨S64x4097, .i32⟩) (.of main_call1_call0_v149 : StableHlo.TRef sig ⟨S64x4097, .i32⟩) addi
  , StableHlo.TRef.nullary (.of main_call1_call0_c_38 : StableHlo.TRef sig ⟨S_, .i32⟩) (constantI S_ 32 15#32)
  , StableHlo.TRef.unary (.of main_call1_call0_c_38 : StableHlo.TRef sig ⟨S_, .i32⟩) (.of main_call1_call0_v150 : StableHlo.TRef sig ⟨S64x4097, .i32⟩) (broadcastInDim S64x4097 ![] bcast_S_S64x4097)
  , StableHlo.TRef.binary (.of main_call1_call0_v148 : StableHlo.TRef sig ⟨S64x4097, .i32⟩) (.of main_call1_call0_v150 : StableHlo.TRef sig ⟨S64x4097, .i32⟩) (.of main_call1_call0_v151 : StableHlo.TRef sig ⟨S64x4097, .i32⟩) Host.shli
  , StableHlo.TRef.nullary (.of main_call1_call0_c_39 : StableHlo.TRef sig ⟨S_, .i32⟩) (constantI S_ 32 17#32)
  , StableHlo.TRef.unary (.of main_call1_call0_c_39 : StableHlo.TRef sig ⟨S_, .i32⟩) (.of main_call1_call0_v152 : StableHlo.TRef sig ⟨S64x4097, .i32⟩) (broadcastInDim S64x4097 ![] bcast_S_S64x4097)
  , StableHlo.TRef.binary (.of main_call1_call0_v148 : StableHlo.TRef sig ⟨S64x4097, .i32⟩) (.of main_call1_call0_v152 : StableHlo.TRef sig ⟨S64x4097, .i32⟩) (.of main_call1_call0_v153 : StableHlo.TRef sig ⟨S64x4097, .i32⟩) Host.shrui
  , StableHlo.TRef.binary (.of main_call1_call0_v151 : StableHlo.TRef sig ⟨S64x4097, .i32⟩) (.of main_call1_call0_v153 : StableHlo.TRef sig ⟨S64x4097, .i32⟩) (.of main_call1_call0_v154 : StableHlo.TRef sig ⟨S64x4097, .i32⟩) ori
  , StableHlo.TRef.binary (.of main_call1_call0_v149 : StableHlo.TRef sig ⟨S64x4097, .i32⟩) (.of main_call1_call0_v154 : StableHlo.TRef sig ⟨S64x4097, .i32⟩) (.of main_call1_call0_v155 : StableHlo.TRef sig ⟨S64x4097, .i32⟩) xori
  , StableHlo.TRef.binary (.of main_call1_call0_v149 : StableHlo.TRef sig ⟨S64x4097, .i32⟩) (.of main_call1_call0_v155 : StableHlo.TRef sig ⟨S64x4097, .i32⟩) (.of main_call1_call0_v156 : StableHlo.TRef sig ⟨S64x4097, .i32⟩) addi
  , StableHlo.TRef.nullary (.of main_call1_call0_c_40 : StableHlo.TRef sig ⟨S_, .i32⟩) (constantI S_ 32 26#32)
  , StableHlo.TRef.unary (.of main_call1_call0_c_40 : StableHlo.TRef sig ⟨S_, .i32⟩) (.of main_call1_call0_v157 : StableHlo.TRef sig ⟨S64x4097, .i32⟩) (broadcastInDim S64x4097 ![] bcast_S_S64x4097)
  , StableHlo.TRef.binary (.of main_call1_call0_v155 : StableHlo.TRef sig ⟨S64x4097, .i32⟩) (.of main_call1_call0_v157 : StableHlo.TRef sig ⟨S64x4097, .i32⟩) (.of main_call1_call0_v158 : StableHlo.TRef sig ⟨S64x4097, .i32⟩) Host.shli
  , StableHlo.TRef.nullary (.of main_call1_call0_c_41 : StableHlo.TRef sig ⟨S_, .i32⟩) (constantI S_ 32 6#32)
  , StableHlo.TRef.unary (.of main_call1_call0_c_41 : StableHlo.TRef sig ⟨S_, .i32⟩) (.of main_call1_call0_v159 : StableHlo.TRef sig ⟨S64x4097, .i32⟩) (broadcastInDim S64x4097 ![] bcast_S_S64x4097)
  , StableHlo.TRef.binary (.of main_call1_call0_v155 : StableHlo.TRef sig ⟨S64x4097, .i32⟩) (.of main_call1_call0_v159 : StableHlo.TRef sig ⟨S64x4097, .i32⟩) (.of main_call1_call0_v160 : StableHlo.TRef sig ⟨S64x4097, .i32⟩) Host.shrui
  , StableHlo.TRef.binary (.of main_call1_call0_v158 : StableHlo.TRef sig ⟨S64x4097, .i32⟩) (.of main_call1_call0_v160 : StableHlo.TRef sig ⟨S64x4097, .i32⟩) (.of main_call1_call0_v161 : StableHlo.TRef sig ⟨S64x4097, .i32⟩) ori
  , StableHlo.TRef.binary (.of main_call1_call0_v156 : StableHlo.TRef sig ⟨S64x4097, .i32⟩) (.of main_call1_call0_v161 : StableHlo.TRef sig ⟨S64x4097, .i32⟩) (.of main_call1_call0_v162 : StableHlo.TRef sig ⟨S64x4097, .i32⟩) xori
  , StableHlo.TRef.binary (.of main_call1_call0_v156 : StableHlo.TRef sig ⟨S64x4097, .i32⟩) (.of main_call1_call0_v162 : StableHlo.TRef sig ⟨S64x4097, .i32⟩) (.of main_call1_call0_v163 : StableHlo.TRef sig ⟨S64x4097, .i32⟩) addi
  , StableHlo.TRef.nullary (.of main_call1_call0_c_42 : StableHlo.TRef sig ⟨S_, .i32⟩) (constantI S_ 32 6#32)
  , StableHlo.TRef.unary (.of main_call1_call0_c_42 : StableHlo.TRef sig ⟨S_, .i32⟩) (.of main_call1_call0_v164 : StableHlo.TRef sig ⟨S64x4097, .i32⟩) (broadcastInDim S64x4097 ![] bcast_S_S64x4097)
  , StableHlo.TRef.binary (.of main_call1_call0_v162 : StableHlo.TRef sig ⟨S64x4097, .i32⟩) (.of main_call1_call0_v164 : StableHlo.TRef sig ⟨S64x4097, .i32⟩) (.of main_call1_call0_v165 : StableHlo.TRef sig ⟨S64x4097, .i32⟩) Host.shli
  , StableHlo.TRef.nullary (.of main_call1_call0_c_43 : StableHlo.TRef sig ⟨S_, .i32⟩) (constantI S_ 32 26#32)
  , StableHlo.TRef.unary (.of main_call1_call0_c_43 : StableHlo.TRef sig ⟨S_, .i32⟩) (.of main_call1_call0_v166 : StableHlo.TRef sig ⟨S64x4097, .i32⟩) (broadcastInDim S64x4097 ![] bcast_S_S64x4097)
  , StableHlo.TRef.binary (.of main_call1_call0_v162 : StableHlo.TRef sig ⟨S64x4097, .i32⟩) (.of main_call1_call0_v166 : StableHlo.TRef sig ⟨S64x4097, .i32⟩) (.of main_call1_call0_v167 : StableHlo.TRef sig ⟨S64x4097, .i32⟩) Host.shrui
  , StableHlo.TRef.binary (.of main_call1_call0_v165 : StableHlo.TRef sig ⟨S64x4097, .i32⟩) (.of main_call1_call0_v167 : StableHlo.TRef sig ⟨S64x4097, .i32⟩) (.of main_call1_call0_v168 : StableHlo.TRef sig ⟨S64x4097, .i32⟩) ori
  , StableHlo.TRef.binary (.of main_call1_call0_v163 : StableHlo.TRef sig ⟨S64x4097, .i32⟩) (.of main_call1_call0_v168 : StableHlo.TRef sig ⟨S64x4097, .i32⟩) (.of main_call1_call0_v169 : StableHlo.TRef sig ⟨S64x4097, .i32⟩) xori
  , StableHlo.TRef.unary (.of main_call1_call0_v1 : StableHlo.TRef sig ⟨S_, .i32⟩) (.of main_call1_call0_v170 : StableHlo.TRef sig ⟨S64x4097, .i32⟩) (broadcastInDim S64x4097 ![] bcast_S_S64x4097)
  , StableHlo.TRef.binary (.of main_call1_call0_v163 : StableHlo.TRef sig ⟨S64x4097, .i32⟩) (.of main_call1_call0_v170 : StableHlo.TRef sig ⟨S64x4097, .i32⟩) (.of main_call1_v19_0 : StableHlo.TRef sig ⟨S64x4097, .i32⟩) addi
  , StableHlo.TRef.unary (.of main_call1_v5 : StableHlo.TRef sig ⟨S_, .i32⟩) (.of main_call1_call0_v172 : StableHlo.TRef sig ⟨S64x4097, .i32⟩) (broadcastInDim S64x4097 ![] bcast_S_S64x4097)
  , StableHlo.TRef.binary (.of main_call1_call0_v169 : StableHlo.TRef sig ⟨S64x4097, .i32⟩) (.of main_call1_call0_v172 : StableHlo.TRef sig ⟨S64x4097, .i32⟩) (.of main_call1_call0_v173 : StableHlo.TRef sig ⟨S64x4097, .i32⟩) addi
  , StableHlo.TRef.nullary (.of main_call1_call0_c_44 : StableHlo.TRef sig ⟨S_, .i32⟩) (constantI S_ 32 5#32)
  , StableHlo.TRef.unary (.of main_call1_call0_c_44 : StableHlo.TRef sig ⟨S_, .i32⟩) (.of main_call1_call0_v174 : StableHlo.TRef sig ⟨S64x4097, .i32⟩) (broadcastInDim S64x4097 ![] bcast_S_S64x4097)
  , StableHlo.TRef.binary (.of main_call1_call0_v173 : StableHlo.TRef sig ⟨S64x4097, .i32⟩) (.of main_call1_call0_v174 : StableHlo.TRef sig ⟨S64x4097, .i32⟩) (.of main_call1_v19_1 : StableHlo.TRef sig ⟨S64x4097, .i32⟩) addi
  , StableHlo.TRef.binary (.of main_call1_v19_0 : StableHlo.TRef sig ⟨S64x4097, .i32⟩) (.of main_call1_v19_1 : StableHlo.TRef sig ⟨S64x4097, .i32⟩) (.of main_call1_v20 : StableHlo.TRef sig ⟨S64x4097, .i32⟩) xori
  , StableHlo.TRef.nullary (.of main_call1_c_2 : StableHlo.TRef sig ⟨S_, .i32⟩) (constantI S_ 32 9#32)
  , StableHlo.TRef.unary (.of main_call1_c_2 : StableHlo.TRef sig ⟨S_, .i32⟩) (.of main_call1_v21 : StableHlo.TRef sig ⟨S64x4097, .i32⟩) (broadcastInDim S64x4097 ![] bcast_S_S64x4097)
  , StableHlo.TRef.binary (.of main_call1_v20 : StableHlo.TRef sig ⟨S64x4097, .i32⟩) (.of main_call1_v21 : StableHlo.TRef sig ⟨S64x4097, .i32⟩) (.of main_call1_v22 : StableHlo.TRef sig ⟨S64x4097, .i32⟩) Host.shrui
  , StableHlo.TRef.nullary (.of main_call1_c_3 : StableHlo.TRef sig ⟨S_, .i32⟩) (constantI S_ 32 1065353216#32)
  , StableHlo.TRef.unary (.of main_call1_c_3 : StableHlo.TRef sig ⟨S_, .i32⟩) (.of main_call1_v23 : StableHlo.TRef sig ⟨S64x4097, .i32⟩) (broadcastInDim S64x4097 ![] bcast_S_S64x4097)
  , StableHlo.TRef.binary (.of main_call1_v22 : StableHlo.TRef sig ⟨S64x4097, .i32⟩) (.of main_call1_v23 : StableHlo.TRef sig ⟨S64x4097, .i32⟩) (.of main_call1_v24 : StableHlo.TRef sig ⟨S64x4097, .i32⟩) ori
  , StableHlo.TRef.unary (.of main_call1_v24 : StableHlo.TRef sig ⟨S64x4097, .i32⟩) (.of main_call1_v25 : StableHlo.TRef sig ⟨S64x4097, .f32⟩) (bitcastToFloat .f32)
  , StableHlo.TRef.nullary (.of main_call1_cst : StableHlo.TRef sig ⟨S_, .f32⟩) (constant S_ .f32 0x3F800000#32)
  , StableHlo.TRef.unary (.of main_call1_cst : StableHlo.TRef sig ⟨S_, .f32⟩) (.of main_call1_v26 : StableHlo.TRef sig ⟨S64x4097, .f32⟩) (broadcastInDim S64x4097 ![] bcast_S_S64x4097)
  , StableHlo.TRef.binary (.of main_call1_v25 : StableHlo.TRef sig ⟨S64x4097, .f32⟩) (.of main_call1_v26 : StableHlo.TRef sig ⟨S64x4097, .f32⟩) (.of main_call1_v27 : StableHlo.TRef sig ⟨S64x4097, .f32⟩) subf
  , StableHlo.TRef.binary (.of main_call1_v3 : StableHlo.TRef sig ⟨S1x1, .f32⟩) (.of main_call1_v2 : StableHlo.TRef sig ⟨S1x1, .f32⟩) (.of main_call1_v28 : StableHlo.TRef sig ⟨S1x1, .f32⟩) subf
  , StableHlo.TRef.unary (.of main_call1_v28 : StableHlo.TRef sig ⟨S1x1, .f32⟩) (.of main_call1_v29 : StableHlo.TRef sig ⟨S64x4097, .f32⟩) (broadcastInDim S64x4097 ![0, 1] bcast_S1x1_S64x4097_0_1)
  , StableHlo.TRef.binary (.of main_call1_v27 : StableHlo.TRef sig ⟨S64x4097, .f32⟩) (.of main_call1_v29 : StableHlo.TRef sig ⟨S64x4097, .f32⟩) (.of main_call1_v30 : StableHlo.TRef sig ⟨S64x4097, .f32⟩) mulf
  , StableHlo.TRef.unary (.of main_call1_v2 : StableHlo.TRef sig ⟨S1x1, .f32⟩) (.of main_call1_v31 : StableHlo.TRef sig ⟨S64x4097, .f32⟩) (broadcastInDim S64x4097 ![0, 1] bcast_S1x1_S64x4097_0_1)
  , StableHlo.TRef.binary (.of main_call1_v30 : StableHlo.TRef sig ⟨S64x4097, .f32⟩) (.of main_call1_v31 : StableHlo.TRef sig ⟨S64x4097, .f32⟩) (.of main_call1_v32 : StableHlo.TRef sig ⟨S64x4097, .f32⟩) addf
  , StableHlo.TRef.unary (.of main_call1_v2 : StableHlo.TRef sig ⟨S1x1, .f32⟩) (.of main_call1_v33 : StableHlo.TRef sig ⟨S64x4097, .f32⟩) (broadcastInDim S64x4097 ![0, 1] bcast_S1x1_S64x4097_0_1)
  , StableHlo.TRef.binary (.of main_call1_v33 : StableHlo.TRef sig ⟨S64x4097, .f32⟩) (.of main_call1_v32 : StableHlo.TRef sig ⟨S64x4097, .f32⟩) (.of main_v17 : StableHlo.TRef sig ⟨S64x4097, .f32⟩) maximumf ]

/-- Every one of them touches TensorCore references only. -/
theorem ops3_sub : (ops3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

set_option maxHeartbeats 40000000 in
/-- Host operations of the main function, stretch 4, in order. -/
abbrev ops4 : List (HloOp τ sig (Elt F)) :=
  [ StableHlo.TRef.unary (.of main_v17 : StableHlo.TRef sig ⟨S64x4097, .f32⟩) (.of main_v18 : StableHlo.TRef sig ⟨S64x4097, .f32⟩) (Host.log)
  , StableHlo.TRef.unary (.of main_v18 : StableHlo.TRef sig ⟨S64x4097, .f32⟩) (.of main_v19 : StableHlo.TRef sig ⟨S64x4097, .f32⟩) (Host.negf)
  , StableHlo.TRef.unary (.of main_v19 : StableHlo.TRef sig ⟨S64x4097, .f32⟩) (.of main_v20 : StableHlo.TRef sig ⟨S64x4097, .f32⟩) (Host.log)
  , StableHlo.TRef.unary (.of main_v20 : StableHlo.TRef sig ⟨S64x4097, .f32⟩) (.of main_v21 : StableHlo.TRef sig ⟨S64x4097, .f32⟩) (Host.negf)
  , StableHlo.TRef.binary (.of main_v9 : StableHlo.TRef sig ⟨S64x4097, .f32⟩) (.of main_v21 : StableHlo.TRef sig ⟨S64x4097, .f32⟩) (.of main_v22 : StableHlo.TRef sig ⟨S64x4097, .f32⟩) (addf) ]

/-- Every one of them touches TensorCore references only. -/
theorem ops4_sub : (ops4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub ..⟩

set_option maxHeartbeats 40000000 in
/-- The operations of the arg-max, in order. -/
abbrev ops5 : List (HloOp τ sig (Elt F)) :=
  [ StableHlo.TRef.nullary (.of main_call2_v0 : StableHlo.TRef sig ⟨S64x4097, .i32⟩) (iotaInDim S64x4097 32 1)
  , StableHlo.TRef.nullary (.of main_call2_cst : StableHlo.TRef sig ⟨S_, .f32⟩) (constant S_ .f32 0xFF800000#32)
  , StableHlo.TRef.nullary (.of main_call2_c : StableHlo.TRef sig ⟨S_, .i32⟩) (constantI S_ 32 0#32)
  , StableHlo.TRef.quaternary (.of main_v22 : StableHlo.TRef sig ⟨S64x4097, .f32⟩) (.of main_call2_v0 : StableHlo.TRef sig ⟨S64x4097, .i32⟩) (.of main_call2_cst : StableHlo.TRef sig ⟨S_, .f32⟩) (.of main_call2_c : StableHlo.TRef sig ⟨S_, .i32⟩) (.of main_call2_v1_0 : StableHlo.TRef sig ⟨S64, .f32⟩) (fun x y u v j => (Host.argReduce reducer_argmax_f32_i32 x y u v reducesTo_S64x4097_S64_d1 h_S_ j).1)
  , StableHlo.TRef.quaternary (.of main_v22 : StableHlo.TRef sig ⟨S64x4097, .f32⟩) (.of main_call2_v0 : StableHlo.TRef sig ⟨S64x4097, .i32⟩) (.of main_call2_cst : StableHlo.TRef sig ⟨S_, .f32⟩) (.of main_call2_c : StableHlo.TRef sig ⟨S_, .i32⟩) (.of main_v23 : StableHlo.TRef sig ⟨S64, .i32⟩) (fun x y u v j => (Host.argReduce reducer_argmax_f32_i32 x y u v reducesTo_S64x4097_S64_d1 h_S_ j).2) ]

/-- Every one of them touches TensorCore references only. -/
theorem ops5_sub : (ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

set_option maxHeartbeats 40000000 in
/-- Host operations of the main function, stretch 6, in order. -/
abbrev ops6 : List (HloOp τ sig (Elt F)) :=
  [ StableHlo.unary main_v23 main_v24 (broadcastInDim S64x1 ![0] bcast_S64_S64x1_0 : (⟨S64, .i32⟩ : BufTy).Contents (Elt F) → (⟨S64x1, .i32⟩ : BufTy).Contents (Elt F)) ]

/-- Every one of them touches TensorCore references only. -/
theorem ops6_sub : (ops6 : List (HloOp τ sig (Elt F))).Forall fun op => op.bufs ⊆ StableHlo.tcRefs τ sig :=
  StableHlo.unary_bufs_sub ..

set_option maxHeartbeats 40000000 in
/-- The operations of the selection along an axis, in order. -/
abbrev ops7 : List (HloOp τ sig (Elt F)) :=
  [ StableHlo.TRef.nullary (.of main_call3_c : StableHlo.TRef sig ⟨S_, .i32⟩) (constantI S_ 32 0#32)
  , StableHlo.TRef.unary (.of main_call3_c : StableHlo.TRef sig ⟨S_, .i32⟩) (.of main_call3_v0 : StableHlo.TRef sig ⟨S64x1, .i32⟩) (broadcastInDim S64x1 ![] bcast_S_S64x1)
  , StableHlo.TRef.binary (.of main_v24 : StableHlo.TRef sig ⟨S64x1, .i32⟩) (.of main_call3_v0 : StableHlo.TRef sig ⟨S64x1, .i32⟩) (.of main_call3_v1 : StableHlo.TRef sig ⟨S64x1, .i1⟩) (cmpi .slt)
  , StableHlo.TRef.nullary (.of main_call3_c_0 : StableHlo.TRef sig ⟨S_, .i32⟩) (constantI S_ 32 4097#32)
  , StableHlo.TRef.unary (.of main_call3_c_0 : StableHlo.TRef sig ⟨S_, .i32⟩) (.of main_call3_v2 : StableHlo.TRef sig ⟨S64x1, .i32⟩) (broadcastInDim S64x1 ![] bcast_S_S64x1)
  , StableHlo.TRef.binary (.of main_v24 : StableHlo.TRef sig ⟨S64x1, .i32⟩) (.of main_call3_v2 : StableHlo.TRef sig ⟨S64x1, .i32⟩) (.of main_call3_v3 : StableHlo.TRef sig ⟨S64x1, .i32⟩) addi
  , StableHlo.TRef.ternary (.of main_call3_v1 : StableHlo.TRef sig ⟨S64x1, .i1⟩) (.of main_call3_v3 : StableHlo.TRef sig ⟨S64x1, .i32⟩) (.of main_v24 : StableHlo.TRef sig ⟨S64x1, .i32⟩) (.of main_call3_v4 : StableHlo.TRef sig ⟨S64x1, .i32⟩) select
  , StableHlo.TRef.reshape (.of main_call3_v4 : StableHlo.TRef sig ⟨S64x1, .i32⟩) (.of main_call3_v5 : StableHlo.TRef sig ⟨S64x1x1, .i32⟩) (rfl : (.i32 : EltTy) = .i32) shapeCasts_S64x1_S64x1x1
  , StableHlo.TRef.nullary (.of main_call3_c_1 : StableHlo.TRef sig ⟨S1, .i32⟩) (constantI S1 32 4096#32)
  , StableHlo.TRef.nullary (.of main_call3_c_2 : StableHlo.TRef sig ⟨S_, .i32⟩) (constantI S_ 32 0#32)
  , StableHlo.TRef.unary (.of main_call3_c_2 : StableHlo.TRef sig ⟨S_, .i32⟩) (.of main_call3_v6 : StableHlo.TRef sig ⟨S64x1x1, .i32⟩) (broadcastInDim S64x1x1 ![] bcast_S_S64x1x1)
  , StableHlo.TRef.binary (.of main_call3_v5 : StableHlo.TRef sig ⟨S64x1x1, .i32⟩) (.of main_call3_v6 : StableHlo.TRef sig ⟨S64x1x1, .i32⟩) (.of main_call3_v7 : StableHlo.TRef sig ⟨S64x1x1, .i1⟩) (cmpi .sge)
  , StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2)
  , StableHlo.TRef.unary (.of main_call3_v8 : StableHlo.TRef sig ⟨S1x1x1, .i32⟩) (.of main_call3_v9 : StableHlo.TRef sig ⟨S64x1x1, .i32⟩) (broadcastInDim S64x1x1 ![0, 1, 2] bcast_S1x1x1_S64x1x1_0_1_2)
  , StableHlo.TRef.binary (.of main_call3_v5 : StableHlo.TRef sig ⟨S64x1x1, .i32⟩) (.of main_call3_v9 : StableHlo.TRef sig ⟨S64x1x1, .i32⟩) (.of main_call3_v10 : StableHlo.TRef sig ⟨S64x1x1, .i1⟩) (cmpi .sle)
  , StableHlo.TRef.binary (.of main_call3_v7 : StableHlo.TRef sig ⟨S64x1x1, .i1⟩) (.of main_call3_v10 : StableHlo.TRef sig ⟨S64x1x1, .i1⟩) (.of main_call3_v11 : StableHlo.TRef sig ⟨S64x1x1, .i1⟩) andi
  , StableHlo.TRef.nullary (.of main_call3_c_3 : StableHlo.TRef sig ⟨S_, .i1⟩) (constantI S_ 1 1#1)
  , StableHlo.TRef.binary (.of main_call3_v11 : StableHlo.TRef sig ⟨S64x1x1, .i1⟩) (.of main_call3_c_3 : StableHlo.TRef sig ⟨S_, .i1⟩) (.of main_call3_v12 : StableHlo.TRef sig ⟨S64x1, .i1⟩) (fun x v => Host.reduce IntOp.andi x v reducesTo_S64x1x1_S64x1_d2 h_S_)
  , StableHlo.TRef.binary (.of main_v9 : StableHlo.TRef sig ⟨S64x4097, .f32⟩) (.of main_call3_v5 : StableHlo.TRef sig ⟨S64x1x1, .i32⟩) (.of main_call3_v13 : StableHlo.TRef sig ⟨S64x1, .f32⟩) (fun x i => Host.gather gather_S64x4097_S64x1x1_S64x1_n_1_0_0_1_2_11 x i)
  , StableHlo.TRef.nullary (.of main_call3_cst : StableHlo.TRef sig ⟨S_, .f32⟩) (constant S_ .f32 0x7FC00000#32)
  , StableHlo.TRef.unary (.of main_call3_cst : StableHlo.TRef sig ⟨S_, .f32⟩) (.of main_call3_v14 : StableHlo.TRef sig ⟨S64x1, .f32⟩) (broadcastInDim S64x1 ![] bcast_S_S64x1)
  , StableHlo.TRef.ternary (.of main_call3_v12 : StableHlo.TRef sig ⟨S64x1, .i1⟩) (.of main_call3_v13 : StableHlo.TRef sig ⟨S64x1, .f32⟩) (.of main_call3_v14 : StableHlo.TRef sig ⟨S64x1, .f32⟩) (.of main_v25 : StableHlo.TRef sig ⟨S64x1, .f32⟩) select ]

/-- Every one of them touches TensorCore references only. -/
theorem ops7_sub : (ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

set_option maxHeartbeats 40000000 in
/-- Host operations of the main function, stretch 8, in order. -/
abbrev ops8 : List (HloOp τ sig (Elt F)) :=
  [ StableHlo.reshape main_v25 main_v26 (rfl : (.f32 : EltTy) = .f32) shapeCasts_S64x1_S64 ]

/-- Every one of them touches TensorCore references only. -/
theorem ops8_sub : (ops8 : List (HloOp τ sig (Elt F))).Forall fun op => op.bufs ⊆ StableHlo.tcRefs τ sig :=
  StableHlo.reshape_bufs_sub ..

end Cert.RefRun

end
-- ==== Proof.RefRun.lean ====
/- The reference's run: its main function is the straight line of `RefOps.lean`'s lists, so every run of it
   ends with each buffer at the fold of those operations over what the buffers held at the start. -/
module

public import proofs.«01_k».proof.Proof.RefOps
public import Idealize.ShloMosaic.Lib.Claim
public import Idealize.ShloMosaic.Lib.StableHlo.RunRead
public import Idealize.ShloMosaic.Lib.Quiescent

@[expose] public section

set_option maxRecDepth 16384

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The operations of the whole main function, in order. -/
abbrev ops : List (HloOp τ sig (Elt F)) :=
  List.flatten [ops0, ops1, ops2, ops3, ops4, ops5, ops6, ops7, ops8]

set_option maxHeartbeats 4000000 in
/-- The main function is the chain of its stretches. -/
theorem main_chain (c : Dev nD) : main (F := F) c = (Pipeline.chain
    [ seq ops0, seq ops1, seq ops2, seq ops3, seq ops4, seq ops5, seq ops6, seq ops7, seq ops8 ] :
      Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

/-- A chain of straight lines is one straight line. -/
theorem chain_seq {Λ : Labels} (ls : List (List (HloOp τ sig (Elt F)))) :
    (Pipeline.chain (ls.map fun l => seq l) : Prog (TpuEff nD τ sig (Elt F) Λ .tc) PUnit) = seq ls.flatten := by
  induction ls with
  | nil => rfl
  | cons l ls ih => rw [List.map_cons, Pipeline.chain_cons, ih, List.flatten_cons, seq_append]

/-- The main function is one straight line. -/
theorem main_eq (c : Dev nD) : main (F := F) c = seq ops :=
  (main_chain c).trans (chain_seq [ops0, ops1, ops2, ops3, ops4, ops5, ops6, ops7, ops8])

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- A property of the elements of some lists is one of their concatenation's. -/
theorem forall_append {α : Type} {p : α → Prop} {l₁ l₂ : List α} (h₁ : l₁.Forall p) (h₂ : l₂.Forall p) :
    (l₁ ++ l₂).Forall p := List.forall_append.mpr ⟨h₁, h₂⟩

/-- Every operation touches TensorCore references only. -/
theorem ops_sub : (ops : List (HloOp τ sig (Elt F))).Forall fun op => op.bufs ⊆ tcRefs τ sig :=
  forall_append ops0_sub <| forall_append ops1_sub <| forall_append ops2_sub <| forall_append ops3_sub <|
    forall_append ops4_sub <| forall_append ops5_sub <| forall_append ops6_sub <| forall_append ops7_sub <|
      forall_append ops8_sub trivial

/-- Every operation determines its results. -/
theorem ops_fresh : ∀ op ∈ (ops : List (HloOp τ sig (Elt F))), op.fresh = ∅ :=
  List.forall_iff_forall_mem.mp (forall_fresh_of_map rfl)

/-- Every run of the reference from zero counters ends, each buffer at the fold of the operations over the contents
    at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops (launchContents m d) (Proc.devRef .tc b) :=
  run_seq scopedRefs_eq scopedSems_eq defs main (fun _ => ops) main_eq (fun _ => ops_sub) m ρ (fun _ => ops_fresh)

set_option maxHeartbeats 4000000 in
/-- No operation writes the first argument. -/
theorem arg0_eq (V : Valuation τ sig (Elt F)) : after ops V main_arg0 = V main_arg0 := by after_reads_simp
set_option maxHeartbeats 4000000 in
/-- No operation writes the second argument. -/
theorem arg1_eq (V : Valuation τ sig (Elt F)) : after ops V main_arg1 = V main_arg1 := by after_reads_simp
set_option maxHeartbeats 4000000 in
/-- No operation writes the third argument. -/
theorem arg2_eq (V : Valuation τ sig (Elt F)) : after ops V main_arg2 = V main_arg2 := by after_reads_simp
set_option maxHeartbeats 4000000 in
/-- No operation writes the fourth argument. -/
theorem arg3_eq (V : Valuation τ sig (Elt F)) : after ops V main_arg3 = V main_arg3 := by after_reads_simp
set_option maxHeartbeats 4000000 in
/-- No operation writes the fifth argument. -/
theorem arg4_eq (V : Valuation τ sig (Elt F)) : after ops V main_arg4 = V main_arg4 := by after_reads_simp

/-- The reference's frame: it ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  θ_run_mono (run_main m ρ) fun r h => ⟨fun c => ⟨(h c main_arg0).trans (arg0_eq _), (h c main_arg1).trans (arg1_eq _),
    (h c main_arg2).trans (arg2_eq _), (h c main_arg3).trans (arg3_eq _), (h c main_arg4).trans (arg4_eq _)⟩,
    sem_eq_zero_of_no_sems (by decide) r.2⟩

end Cert.RefRun

end
-- ==== Proof.FirstMax.lean ====
/- The first place where a finite family of extended reals is greatest: what it is, that it is one place, that moving every
   value by one real leaves it, and what a fold that keeps one of its two arguments at each step computes. -/
module

public import Mathlib.Data.EReal.Operations
public import Mathlib.Data.Finset.Fold
public import Mathlib.Analysis.SpecialFunctions.Log.Basic
public import Mathlib.Analysis.SpecialFunctions.Exp

@[expose] public section

namespace Cert.FirstMax

/-- `k` is the first place where `y` is greatest. -/
def IsFirstMax {n : Nat} (y : Fin n → EReal) (k : Fin n) : Prop :=
  (∀ j, y j ≤ y k) ∧ ∀ j, j < k → y j < y k

/-- There is only one first place. -/
theorem IsFirstMax.unique {n : Nat} {y : Fin n → EReal} {k k' : Fin n} (h : IsFirstMax y k) (h' : IsFirstMax y k') : k = k' := by
  rcases lt_trichotomy k k' with hlt | he | hlt
  · exact absurd (h'.2 k hlt) (not_lt.2 (h.1 k'))
  · exact he
  · exact absurd (h.2 k' hlt) (not_lt.2 (h'.1 k))

/-- Adding one real to two extended reals keeps their strict order. -/
theorem add_real_lt_iff (a b : EReal) (r : ℝ) : a + (r : EReal) < b + r ↔ a < b := by
  have key : ∀ (a b : EReal) (r : ℝ), a < b → a + (r : EReal) < b + r := fun a b r h => by
    have h1 := EReal.add_lt_add_right_coe h r
    exact h1
  refine ⟨fun h => ?_, key a b r⟩
  have h2 := key _ _ (-r) h
  have e : ∀ c : EReal, c + (r : EReal) + ((-r : ℝ) : EReal) = c := fun c => by
    rw [add_assoc, ← EReal.coe_add, add_neg_cancel, EReal.coe_zero, add_zero]
  rwa [e, e] at h2

/-- Two families whose values differ by one real have the same first greatest place. -/
theorem IsFirstMax.of_shift {n : Nat} {y z : Fin n → EReal} (r : ℝ) (hz : ∀ j, z j = y j + (r : EReal)) {k : Fin n}
    (h : IsFirstMax z k) : IsFirstMax y k := by
  refine ⟨fun j => ?_, fun j hj => ?_⟩
  · have h1 := h.1 j
    rw [hz, hz] at h1
    exact not_lt.1 fun hlt => absurd ((add_real_lt_iff _ _ r).2 hlt) (not_lt.2 h1)
  · have h1 := h.2 j hj
    rw [hz, hz] at h1
    exact (add_real_lt_iff _ _ r).1 h1

/-- A real less two reals, plus anything: the sum of the real and that thing, moved by a real. -/
theorem sub_sub_add (l m s : ℝ) (g : EReal) : ((l : EReal) - m - s) + g = ((l : EReal) + g) + ((-(m + s) : ℝ) : EReal) := by
  rw [add_right_comm, ← EReal.coe_sub, ← EReal.coe_sub, ← EReal.coe_add]
  congr 2
  ring

/-- A left fold of an operation that keeps one of its arguments and never goes down in a preorder `R` ends at the start or
    at a member, and at least as high as all of them. -/
theorem foldl_pick {β : Type*} (R : β → β → Prop) (op : β → β → β) (hr : ∀ a, R a a) (ht : ∀ a b c, R a b → R b c → R a c)
    (hl : ∀ a b, R (op a b) a) (hrr : ∀ a b, R (op a b) b) (hp : ∀ a b, op a b = a ∨ op a b = b) (l : List β) (b : β) :
    R (l.foldl op b) b ∧ (∀ p ∈ l, R (l.foldl op b) p) ∧ (l.foldl op b = b ∨ l.foldl op b ∈ l) := by
  induction l generalizing b with
  | nil => exact ⟨hr b, fun p hp => absurd hp (List.not_mem_nil), Or.inl rfl⟩
  | cons a l ih =>
    obtain ⟨h1, h2, h3⟩ := ih (op b a)
    rw [List.foldl_cons]
    refine ⟨ht _ _ _ h1 (hl b a), fun p hp => ?_, ?_⟩
    · rcases List.mem_cons.1 hp with rfl | hp
      · exact ht _ _ _ h1 (hrr b p)
      · exact h2 p hp
    · rcases h3 with h3 | h3
      · rcases hp b a with h4 | h4
        · exact Or.inl (h3.trans h4)
        · exact Or.inr (List.mem_cons.2 (Or.inl (h3.trans h4)))
      · exact Or.inr (List.mem_cons.2 (Or.inr h3))

/-- The same of a fold over a finite set. -/
theorem fold_pick {ι β : Type*} (R : β → β → Prop) (op : β → β → β) [Std.Commutative op] [Std.Associative op]
    (hr : ∀ a, R a a) (ht : ∀ a b c, R a b → R b c → R a c) (hl : ∀ a b, R (op a b) a) (hrr : ∀ a b, R (op a b) b)
    (hp : ∀ a b, op a b = a ∨ op a b = b) (s : Finset ι) (f : ι → β) (b : β) :
    R (s.fold op b f) b ∧ (∀ i ∈ s, R (s.fold op b f) (f i)) ∧ (s.fold op b f = b ∨ ∃ i ∈ s, s.fold op b f = f i) := by
  classical
  induction s using Finset.induction_on with
  | empty => exact ⟨hr b, fun i hi => absurd hi (Finset.notMem_empty i), Or.inl rfl⟩
  | insert a s ha ih =>
    obtain ⟨h1, h2, h3⟩ := ih
    rw [Finset.fold_insert ha]
    refine ⟨ht _ _ _ (hrr _ _) h1, fun i hi => ?_, ?_⟩
    · rcases Finset.mem_insert.1 hi with rfl | hi
      · exact hl _ _
      · exact ht _ _ _ (hrr _ _) (h2 i hi)
    · rcases hp (f a) (s.fold op b f) with h4 | h4
      · exact Or.inr ⟨a, Finset.mem_insert_self a s, h4⟩
      · rcases h3 with h3 | ⟨i, hi, h3⟩
        · exact Or.inl (h4.trans h3)
        · exact Or.inr ⟨i, Finset.mem_insert_of_mem hi, h4.trans h3⟩

/-- The fold of the maximum from the least value: at least every value, and one of them when there is any. -/
theorem fold_max {ι : Type*} (s : Finset ι) (hs : s.Nonempty) (f : ι → EReal) :
    (∀ i ∈ s, f i ≤ s.fold max ⊥ f) ∧ ∃ i ∈ s, s.fold max ⊥ f = f i := by
  obtain ⟨-, h2, h3⟩ := fold_pick (fun a b : EReal => b ≤ a) max le_refl (fun a b c h h' => h'.trans h) le_max_left
    le_max_right (fun a b => max_choice a b) s f ⊥
  refine ⟨h2, ?_⟩
  rcases h3 with h3 | h3
  · obtain ⟨i, hi⟩ := hs
    have h4 := h2 i hi
    rw [h3] at h4
    exact ⟨i, hi, h3.trans (le_bot_iff.1 h4).symm⟩
  · exact h3

/-- The sum of the exponentials of finitely many reals less one real is a positive real. -/
theorem sum_exp_pos {n : Nat} (hn : 0 < n) (l : Fin n → ℝ) (m : ℝ) : 0 < ∑ j, Real.exp (l j - m) :=
  Finset.sum_pos (fun j _ => Real.exp_pos _) ⟨⟨0, hn⟩, Finset.mem_univ _⟩

/-- A finite sum of reals, read as an extended real, is the sum of the terms read so. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.FirstMax

end
-- ==== Proof.Logits.lean ====
/- The logits of every row as real numbers, and the five arrays they are computed from. -/
module

public import Idealize.ShloMosaic.Lib.ValueIdx
public import proofs.«01_k».proof.Proof.FirstMax

@[expose] public section

noncomputable section

namespace Cert.Logits

open Idealize.ShloMosaic Idealize.ShloMosaic.ValueIdx

/-- The entries of the five arrays, as real numbers: states, edge features, projection, stop weights, stop bias. -/
structure Inputs where
  x : Fin 64 → Fin 1024 → ℝ
  e : Fin 64 → Fin 4096 → Fin 128 → ℝ
  w : Fin 1024 → Fin 128 → ℝ
  s : Fin 1024 → ℝ
  b : ℝ

/-- The five arrays hold these numbers. -/
structure Inputs.Holds (R : Inputs) (a0 : FVec Ideal ⟨2, ![64, 1024]⟩ .f32) (a1 : FVec Ideal ⟨3, ![64, 4096, 128]⟩ .f32)
    (a2 : FVec Ideal ⟨2, ![1024, 128]⟩ .f32) (a3 : FVec Ideal ⟨2, ![1024, 1]⟩ .f32) (a4 : FVec Ideal ⟨1, ![1]⟩ .f32) : Prop where
  x : ∀ i d, a0 (ix2 i d) = ((R.x i d : ℝ) : EReal)
  e : ∀ i j k, a1 (ix3 i j k) = ((R.e i j k : ℝ) : EReal)
  w : ∀ d k, a2 (ix2 d k) = ((R.w d k : ℝ) : EReal)
  s : ∀ d, a3 (ix2 d (0 : Fin 1)) = ((R.s d : ℝ) : EReal)
  b : a4 (ix1 (0 : Fin 1)) = ((R.b : ℝ) : EReal)

variable (R : Inputs)

/-- A projected state. -/
def Inputs.proj (i : Fin 64) (k : Fin 128) : ℝ := ∑ d, R.x i d * R.w d k

/-- The logit of an edge. -/
def Inputs.edge (i : Fin 64) (j : Fin 4096) : ℝ := ∑ k, R.proj i k * R.e i j k

/-- The logit of stopping. -/
def Inputs.halt (i : Fin 64) : ℝ := ∑ d, R.x i d * R.s d + R.b

/-- The logits of a row: the edges', then the one of stopping. -/
def Inputs.logit (i : Fin 64) (j : Fin 4097) : ℝ := Fin.lastCases (R.halt i) (R.edge i) j

theorem Inputs.logit_castSucc (i : Fin 64) (j : Fin 4096) : R.logit i j.castSucc = R.edge i j := Fin.lastCases_castSucc ..
theorem Inputs.logit_last (i : Fin 64) : R.logit i (Fin.last 4096) = R.halt i := Fin.lastCases_last ..

/-- A sum of products of real numbers is a real number. -/
theorem coe_dot {n : ℕ} (f g : Fin n → ℝ) : ∑ k, ((f k : ℝ) : EReal) * ((g k : ℝ) : EReal) = ((∑ k, f k * g k : ℝ) : EReal) := by
  rw [FirstMax.coe_sum]
  exact Finset.sum_congr rfl fun k _ => (EReal.coe_mul _ _).symm

end Cert.Logits

end
-- ==== Proof.Reductions.lean ====
/- What the three reductions of one row compute: the greatest value, the sum, and the least word over all lanes. -/
module

public import proofs.«01_k».proof.Proof.Gen.KernelIdeal
public import proofs.«01_k».proof.Proof.FirstMax
public import Idealize.ShloMosaic.Lib.ValueIdx
public import Idealize.ShloMosaic.Lib.Pipeline.Value
public import Idealize.ShloMosaic.PureOps.Ideal.Laws

@[expose] public section

noncomputable section

namespace Cert.Reductions

open Cert.KernelIdeal Cert.KernelIdeal.Gen
open Idealize.ShloMosaic Idealize.ShloMosaic.ValueIdx

/-- The pattern of minus infinity is the least extended real. -/
theorem ofBits_bot : Ideal.ofBits .f32 0xFF800000#32 = (⊥ : EReal) := by
  simp [Ideal.ofBits, Ideal.ieee]

/-- Every index of the row with a leading unit axis names one lane. -/
theorem row3_eq (i : S1x1x4096.Idx) : i = ix3 (0 : Fin 1) (0 : Fin 1) (i 2) := by
  have h0 : i 0 = (0 : Fin 1) := Fin.ext (by have := (i 0).isLt; change (i 0).val < 1 at this; show (i 0).val = 0; omega)
  have h1 : i 1 = (0 : Fin 1) := Fin.ext (by have := (i 1).isLt; change (i 1).val < 1 at this; show (i 1).val = 0; omega)
  funext d
  match d with
  | ⟨0, _⟩ => exact h0
  | ⟨1, _⟩ => exact h1
  | ⟨2, _⟩ => rfl

/-- A row with a leading unit axis put in front reads lane for lane. -/
theorem lane {α : Type} (v : S1x4096.Idx → α) (h : S1x4096.ShapeCasts S1x1x4096) (j : Fin 4096) :
    shapeCast S1x1x4096 v h (ix3 (0 : Fin 1) (0 : Fin 1) j) = v (ix2 (0 : Fin 1) j) :=
  shapeCast_apply v h _ _ (by rw [Shape.rowMajor_val_two, Shape.rowMajor_val_three]; simp)

/-- And the other way. -/
theorem lane' {α : Type} (v : S1x1x4096.Idx → α) (h : S1x1x4096.ShapeCasts S1x4096) (j : Fin 4096) :
    shapeCast S1x4096 v h (ix2 (0 : Fin 1) j) = v (ix3 (0 : Fin 1) (0 : Fin 1) j) :=
  shapeCast_apply v h _ _ (by rw [Shape.rowMajor_val_two, Shape.rowMajor_val_three]; simp)

/-- The one element of a one-element vector, taken through a change of shape. -/
theorem only {α : Type} (v : S1.Idx → α) (h : S1.ShapeCasts S1x1x1) (hp) :
    extractAt ![0, 0, 0] (shapeCast S1x1x1 v h) hp = v (ix1 (0 : Fin 1)) :=
  shapeCast_apply v h _ _ (by rw [Shape.rowMajor_val_one, Shape.rowMajor_val_three]; simp)

/-- All indices of the row fall together. -/
theorem all_drop (h : S1x1x4096.Reduces [1, 2] S1) (j : S1.Idx) :
    (Finset.univ.filter fun i : S1x1x4096.Idx => h.drop i = j) = Finset.univ :=
  Finset.filter_true_of_mem fun i _ => funext fun b => Fin.ext (by
    have h1 := (h.drop i b).isLt
    have h2 := (j b).isLt
    have hb : S1.size b = 1 := by match b with | ⟨0, _⟩ => rfl
    omega)

/-- The maximum of a row, from minus infinity: at least every lane, and one of them. -/
theorem rowMax (v : FVec Ideal S1x4096 .f32) (h1 h2) (hacc) (h3 hp) :
    (∀ j : Fin 4096, v (ix2 (0 : Fin 1) j) ≤ (extractAt ![0, 0, 0] (shapeCast S1x1x1 (multiReduction .maximumf [1, 2] S1
        (shapeCast S1x1x4096 v h1) 0xFF800000#32 h2 (.inl rfl) hacc) h3) hp : EReal))
      ∧ ∃ j : Fin 4096, (extractAt ![0, 0, 0] (shapeCast S1x1x1 (multiReduction .maximumf [1, 2] S1
        (shapeCast S1x1x4096 v h1) 0xFF800000#32 h2 (.inl rfl) hacc) h3) hp : EReal) = v (ix2 (0 : Fin 1) j) := by
  rw [only, multiReduction_maximumf_eq_fold, all_drop]
  have e : (Finset.univ : Finset S1x1x4096.Idx).fold FloatOps.maximumf (FloatOps.ofBits .f32 0xFF800000#32) (shapeCast S1x1x4096 v h1)
      = (Finset.univ : Finset S1x1x4096.Idx).fold max (⊥ : EReal) (shapeCast S1x1x4096 v h1) := by
    rw [← ofBits_bot]; rfl
  rw [e]
  obtain ⟨ha, i, -, hi⟩ := FirstMax.fold_max (Finset.univ : Finset S1x1x4096.Idx)
    ⟨ix3 (0 : Fin 1) (0 : Fin 1) (0 : Fin 4096), Finset.mem_univ _⟩ (shapeCast S1x1x4096 v h1)
  refine ⟨fun j => ?_, i 2, ?_⟩
  · rw [← lane v h1 j]
    exact ha _ (Finset.mem_univ _)
  · exact (hi.trans (congrArg (shapeCast S1x1x4096 v h1) (row3_eq i))).trans (lane v h1 (i 2))

/-- The sum of a row, from zero. -/
theorem rowSum (v : FVec Ideal S1x4096 .f32) (h1 h2) (hacc) (h3 hp) :
    (extractAt ![0, 0, 0] (shapeCast S1x1x1 (multiReduction .add [1, 2] S1
        (shapeCast S1x1x4096 v h1) 0x00000000#32 h2 (.inl rfl) hacc) h3) hp : EReal) = ∑ j : Fin 4096, v (ix2 (0 : Fin 1) j) := by
  rw [only, Ideal.multiReduction_add_total _ _ _ (fun b => by match b with | ⟨0, _⟩ => rfl)]
  unfold shapeCast
  rw [Equiv.sum_comp (Shape.reshapeEquiv h1) v, sum_idx2]
  exact Fintype.sum_unique _

/-- The least word of a row, read as signed, from the largest word: at most every lane, and the largest word or one of them. -/
theorem rowMin (v : IVec S1x4096 32) (h1 h2) (hacc) (h3 hp) :
    (∀ j : Fin 4096, (extractAt ![0, 0, 0] (shapeCast S1x1x1 (multiReductionI .minsi [1, 2] S1
        (shapeCast S1x1x4096 v h1) 2147483647#32 h2 hacc) h3) hp : BitVec 32).toInt ≤ (v (ix2 (0 : Fin 1) j)).toInt)
      ∧ ((extractAt ![0, 0, 0] (shapeCast S1x1x1 (multiReductionI .minsi [1, 2] S1
        (shapeCast S1x1x4096 v h1) 2147483647#32 h2 hacc) h3) hp : BitVec 32) = 2147483647#32
        ∨ ∃ j : Fin 4096, (extractAt ![0, 0, 0] (shapeCast S1x1x1 (multiReductionI .minsi [1, 2] S1
        (shapeCast S1x1x4096 v h1) 2147483647#32 h2 hacc) h3) hp : BitVec 32) = v (ix2 (0 : Fin 1) j)) := by
  rw [only, multiReductionI_eq_fold, all_drop]
  have hop : ∀ a b : BitVec 32, IKind.minsi.op a b = if a.slt b then a else b := fun _ _ => rfl
  obtain ⟨-, h4, h5⟩ := FirstMax.fold_pick (fun a b : BitVec 32 => a.toInt ≤ b.toInt) IKind.minsi.op (fun _ => le_refl _)
    (fun _ _ _ => le_trans)
    (fun a b => by rw [hop]; split <;> rename_i h <;> simp only [BitVec.slt, decide_eq_true_eq] at h <;> omega)
    (fun a b => by rw [hop]; split <;> rename_i h <;> simp only [BitVec.slt, decide_eq_true_eq] at h <;> omega)
    (fun a b => by rw [hop]; split <;> simp)
    (Finset.univ : Finset S1x1x4096.Idx) (shapeCast S1x1x4096 v h1) 2147483647#32
  refine ⟨fun j => ?_, ?_⟩
  · rw [← lane v h1 j]
    exact h4 _ (Finset.mem_univ _)
  · rcases h5 with h5 | ⟨i, -, hi⟩
    · exact Or.inl h5
    · exact Or.inr ⟨i 2, (hi.trans (congrArg (shapeCast S1x1x4096 v h1) (row3_eq i))).trans (lane v h1 (i 2))⟩

end Cert.Reductions

end
-- ==== Proof.KernelRow.lean ====
/- What one step of the kernel computes from its loaded values: the place where logit plus noise is first greatest, and the
   log-probability of that place. -/
module

public import proofs.«01_k».proof.Proof.Reductions
public import proofs.«01_k».proof.Proof.Gen.KernelIdeal.Skeleton
public import Idealize.ShloMosaic.Lib.WordCmp
public import Idealize.ShloMosaic.Lib.IdealHost

@[expose] public section

noncomputable section

namespace Cert.KernelRow

open Cert.KernelIdeal Cert.KernelIdeal.Gen
open Idealize.ShloMosaic.WordCmp hiding select_one select_zero
open Idealize.ShloMosaic Idealize.ShloMosaic.ValueIdx Cert.FirstMax Cert.Reductions

/-- `M` is the greatest of the logits. -/
def IsMax (L : Fin 4097 → ℝ) (M : ℝ) : Prop := (∀ j, L j ≤ M) ∧ ∃ j, M = L j

/-- The logarithm of the sum of the exponentials of the logits, each less `M`. -/
def logSum (L : Fin 4097 → ℝ) (M : ℝ) : ℝ := Real.log (∑ j, Real.exp (L j - M))

/-- There is only one greatest value. -/
theorem IsMax.unique {L : Fin 4097 → ℝ} {M M' : ℝ} (h : IsMax L M) (h' : IsMax L M') : M = M' := by
  obtain ⟨j, hj⟩ := h.2
  obtain ⟨j', hj'⟩ := h'.2
  exact le_antisymm (hj ▸ h'.1 j) (hj' ▸ h.1 j')

/-- A number below 4097 read back from its 32-bit word as a signed one. -/
theorem toInt_small {n : Nat} (h : n < 4097) : (BitVec.ofNat 32 n).toInt = (n : Int) := by
  rw [toInt_eq_toNat_of_lt_half (by rw [BitVec.toNat_ofNat]; omega), BitVec.toNat_ofNat, Nat.mod_eq_of_lt (by omega)]

/-- The lane number of a lane. -/
theorem lane_number (h) (j : Fin 4096) : iota .tc S1x4096 32 [1] h (ix2 (0 : Fin 1) j) = BitVec.ofNat 32 j.val := by
  show BitVec.ofNat 32 ([(1 : Fin 2)].foldl _ 0) = _
  simp

/-- The least lane number among the lanes holding the maximum: the first such lane. -/
theorem firstLane (p : FVec Ideal S1x4096 .f32) (pm : EReal) (hle : ∀ j : Fin 4096, p (ix2 (0 : Fin 1) j) ≤ pm)
    (hex : ∃ j : Fin 4096, pm = p (ix2 (0 : Fin 1) j)) (h h1 h2) (hacc) (h3 hp) :
    ∃ e : Fin 4096, (extractAt ![0, 0, 0] (shapeCast S1x1x1 (multiReductionI .minsi [1, 2] S1
        (shapeCast S1x1x4096 (select (cmpf (F := Ideal) (φ := .f32) .oeq p (broadcast S1x4096 pm)) (iota .tc S1x4096 32 [1] h)
          (broadcast S1x4096 4096#32)) h1) 2147483647#32 h2 hacc) h3) hp : BitVec 32) = BitVec.ofNat 32 e.val
      ∧ p (ix2 (0 : Fin 1) e) = pm ∧ ∀ j : Fin 4096, j < e → p (ix2 (0 : Fin 1) j) < pm := by
  obtain ⟨ha, hb⟩ := rowMin (select (cmpf (F := Ideal) (φ := .f32) .oeq p (broadcast S1x4096 pm)) (iota .tc S1x4096 32 [1] h)
    (broadcast S1x4096 4096#32)) h1 h2 hacc h3 hp
  generalize (extractAt ![0, 0, 0] (shapeCast S1x1x1 (multiReductionI .minsi [1, 2] S1
        (shapeCast S1x1x4096 (select (cmpf (F := Ideal) (φ := .f32) .oeq p (broadcast S1x4096 pm)) (iota .tc S1x4096 32 [1] h)
          (broadcast S1x4096 4096#32)) h1) 2147483647#32 h2 hacc) h3) hp : BitVec 32) = w at ha hb ⊢
  have hc : ∀ j : Fin 4096, select (cmpf (F := Ideal) (φ := .f32) .oeq p (broadcast S1x4096 pm)) (iota .tc S1x4096 32 [1] h)
      (broadcast S1x4096 4096#32) (ix2 (0 : Fin 1) j) = if p (ix2 (0 : Fin 1) j) = pm then BitVec.ofNat 32 j.val else 4096#32 := by
    intro j
    rw [select_apply, lane_number, cmpf_apply, Ideal.cmpf_def]
    show Scalar.select (BitVec.ofBool (decide (p (ix2 (0 : Fin 1) j) = pm))) _ _ = _
    rw [ofBool_decide_eq_ite]
    split
    · exact select_one _ _
    · exact select_zero _ _
  obtain ⟨j₀, hj₀⟩ := hex
  have hsmall : w.toInt ≤ j₀.val := by
    have := ha j₀
    rw [hc, if_pos hj₀.symm, toInt_small (by omega)] at this
    exact this
  rcases hb with hb | ⟨e, he⟩
  · rw [hb] at hsmall
    have : (2147483647#32).toInt = 2147483647 := by decide
    omega
  · rw [hc] at he
    by_cases hpe : p (ix2 (0 : Fin 1) e) = pm
    · rw [if_pos hpe] at he
      refine ⟨e, he, hpe, fun j hj => lt_of_le_of_ne (hle j) fun hpj => ?_⟩
      have := ha j
      rw [hc, if_pos hpj, he, toInt_small (by omega), toInt_small (by omega)] at this
      have : j.val < e.val := hj
      omega
    · rw [if_neg hpe] at he
      rw [he] at hsmall
      have : (4096#32).toInt = 4096 := by decide
      omega

/-- The logit of lane `e`, as the maximum of the row with every other lane set to minus infinity. -/
theorem pickLane (x : FVec Ideal S1x4096 .f32) (e : Fin 4096) (h h1 h2) (hacc) (h3 hp) :
    (extractAt ![0, 0, 0] (shapeCast S1x1x1 (multiReduction .maximumf [1, 2] S1
        (shapeCast S1x1x4096 (select (cmpi .eq (iota .tc S1x4096 32 [1] h) (broadcast S1x4096 (BitVec.ofNat 32 e.val))) x
          (broadcast S1x4096 (Scalar.ofBits (F := Ideal) .f32 0xFF800000#32))) h1) 0xFF800000#32 h2 (.inl rfl) hacc) h3) hp : EReal)
      = x (ix2 (0 : Fin 1) e) := by
  obtain ⟨ha, j, hj⟩ := rowMax (select (cmpi .eq (iota .tc S1x4096 32 [1] h) (broadcast S1x4096 (BitVec.ofNat 32 e.val))) x
          (broadcast S1x4096 (Scalar.ofBits (F := Ideal) .f32 0xFF800000#32))) h1 h2 hacc h3 hp
  have hc : ∀ j : Fin 4096, select (cmpi .eq (iota .tc S1x4096 32 [1] h) (broadcast S1x4096 (BitVec.ofNat 32 e.val))) x
      (broadcast S1x4096 (Scalar.ofBits (F := Ideal) .f32 0xFF800000#32)) (ix2 (0 : Fin 1) j)
        = if j = e then x (ix2 (0 : Fin 1) j) else (⊥ : EReal) := by
    intro j
    rw [select_apply]
    show Scalar.select (IntOp.cmpi .eq (iota .tc S1x4096 32 [1] h (ix2 (0 : Fin 1) j)) (BitVec.ofNat 32 e.val)) _ (Ideal.ofBits .f32 0xFF800000#32) = _
    rw [lane_number, ofBits_bot, cmpi_eq_eq, ofBool_decide_eq_ite]
    have hiff : BitVec.ofNat 32 j.val = BitVec.ofNat 32 e.val ↔ j = e := by
      constructor
      · intro hh
        have := congrArg BitVec.toInt hh
        rw [toInt_small (by omega), toInt_small (by omega)] at this
        exact Fin.ext (by omega)
      · rintro rfl; rfl
    by_cases hje : j = e
    · rw [if_pos (hiff.2 hje), if_pos hje]; exact select_one _ _
    · rw [if_neg (fun hh => hje (hiff.1 hh)), if_neg hje]; exact select_zero _ _
  refine le_antisymm ?_ ?_
  · rw [hj, hc]
    split
    · rename_i hje; rw [hje]
    · exact bot_le
  · have := ha e
    rw [hc, if_pos rfl] at this
    exact this

/-- The single entry of a 1 by 1 value. -/
theorem only2 {α : Type} (v : S1x1.Idx → α) (h) : extractAt ![0, 0] v h = v (ix2 (0 : Fin 1) (0 : Fin 1)) := by
  unfold extractAt
  refine congrArg v (funext fun d => Fin.ext ?_)
  match d with
  | ⟨0, _⟩ => rfl
  | ⟨1, _⟩ => rfl

/-- The single entry of a 1 by 1 by 1 value. -/
theorem only3 {α : Type} (v : S1x1x1.Idx → α) (h) : extractAt ![0, 0, 0] v h = v (ix3 (0 : Fin 1) (0 : Fin 1) (0 : Fin 1)) := by
  unfold extractAt
  refine congrArg v (funext fun d => Fin.ext ?_)
  match d with
  | ⟨0, _⟩ => rfl
  | ⟨1, _⟩ => rfl
  | ⟨2, _⟩ => rfl

/-- The normalizer of the row: the greatest logit plus the logarithm of the sum of the shifted exponentials. -/
theorem normalizer (v4 : Vec Ideal S1x128 .f32) (v5 : Vec Ideal S1x4096x128 .f32) (v11 : Vec Ideal S1x1 .f32) (L : Fin 4097 → ℝ)
    (hx : ∀ j : Fin 4096, k0_pay5 v4 v5 (ix2 (0 : Fin 1) j) = ((L j.castSucc : ℝ) : EReal))
    (hs : k0_pay6 v11 (ix2 (0 : Fin 1) (0 : Fin 1)) = ((L (Fin.last 4096) : ℝ) : EReal)) :
    ∃ M : ℝ, IsMax L M ∧ k0_pay7 v4 v5 v11 = (((M + logSum L M) : ℝ) : EReal) := by
  obtain ⟨hle, j₀, hj₀⟩ := rowMax (k0_pay5 v4 v5) shapeCasts_S1x4096_S1x1x4096 reduces_S1x1x4096_S1 rfl shapeCasts_S1_S1x1x1 inpos_S1x1x1_p0_0_0
  rw [hx] at hj₀
  have hle' : ∀ j : Fin 4096, L j.castSucc ≤ L j₀.castSucc := by
    intro j
    have := hle j
    rw [hx, hj₀] at this
    exact_mod_cast this
  refine ⟨max (L j₀.castSucc) (L (Fin.last 4096)), ⟨fun j => ?_, ?_⟩, ?_⟩
  · refine Fin.lastCases ?_ (fun j => ?_) j
    · exact le_max_right _ _
    · exact (hle' j).trans (le_max_left _ _)
  · rcases max_choice (L j₀.castSucc) (L (Fin.last 4096)) with h | h
    · exact ⟨_, h⟩
    · exact ⟨_, h⟩
  · generalize hM : max (L j₀.castSucc) (L (Fin.last 4096)) = M
    have hv18 : extractAt ![0, 0] (k0_pay6 v11) inpos_S1x1_p0_0 = ((L (Fin.last 4096) : ℝ) : EReal) := (only2 _ _).trans hs
    have hv19 : (Scalar.maximumf (F := Ideal) (φ := .f32) (extractAt ![0, 0, 0] (shapeCast S1x1x1 (multiReduction .maximumf [1, 2] S1
        (shapeCast S1x1x4096 (k0_pay5 v4 v5) shapeCasts_S1x4096_S1x1x4096) 0xFF800000#32 reduces_S1x1x4096_S1 (.inl rfl) rfl)
          shapeCasts_S1_S1x1x1) inpos_S1x1x1_p0_0_0) (extractAt ![0, 0] (k0_pay6 v11) inpos_S1x1_p0_0)) = ((M : ℝ) : EReal) := by
      rw [hv18, hj₀, ← hM]
      exact (EReal.coe_strictMono.monotone.map_max (a := L j₀.castSucc) (b := L (Fin.last 4096))).symm
    unfold k0_pay7
    simp only []
    rw [hv19, hv18]
    have hsum : (∑ j : Fin 4096, exp (F := Ideal) (φ := .f32) (subf (k0_pay5 v4 v5) (broadcast S1x4096 ((M : ℝ) : EReal))) (ix2 (0 : Fin 1) j) : EReal)
        = ((∑ j : Fin 4096, Real.exp (L j.castSucc - M) : ℝ) : EReal) := by
      rw [coe_sum]
      refine Finset.sum_congr rfl fun j _ => ?_
      show Ideal.exp (k0_pay5 v4 v5 (ix2 (0 : Fin 1) j) - ((M : ℝ) : EReal)) = _
      rw [hx, ← EReal.coe_sub, Ideal.exp_coe]
    have hstop : Scalar.exp (F := Ideal) (φ := .f32) (Scalar.subf (((L (Fin.last 4096) : ℝ) : EReal) : Ideal .f32) ((M : ℝ) : EReal))
        = ((Real.exp (L (Fin.last 4096) - M) : ℝ) : EReal) := by
      show Ideal.exp (((L (Fin.last 4096) : ℝ) : EReal) - ((M : ℝ) : EReal)) = _
      rw [← EReal.coe_sub, Ideal.exp_coe]
    rw [(rowSum (exp (F := Ideal) (φ := .f32) (subf (k0_pay5 v4 v5) (broadcast S1x4096 ((M : ℝ) : EReal)))) shapeCasts_S1x4096_S1x1x4096 reduces_S1x1x4096_S1
      rfl shapeCasts_S1_S1x1x1 inpos_S1x1x1_p0_0_0).trans hsum, hstop]
    show ((M : ℝ) : EReal) + Ideal.log (((∑ j : Fin 4096, Real.exp (L j.castSucc - M) : ℝ) : EReal) + ((Real.exp (L (Fin.last 4096) - M) : ℝ) : EReal)) = _
    rw [← EReal.coe_add, ← Fin.sum_univ_castSucc (fun j => Real.exp (L j - M)), Ideal.log_coe, if_neg (not_le.2 (sum_exp_pos (by norm_num) L M)), ← EReal.coe_add]
    rfl

/-- What one step stores: at every entry of its two output blocks, the number of the first greatest of logit plus noise, and the
    log-probability of that place. -/
theorem row (v4 : Vec Ideal S1x128 .f32) (v5 : Vec Ideal S1x4096x128 .f32) (v11 : Vec Ideal S1x1 .f32) (v33 : Vec Ideal S1x1x4096 .f32)
    (v58 : Vec Ideal S1x1x1 .f32) (L : Fin 4097 → ℝ) (G : Fin 4097 → EReal)
    (hx : ∀ j : Fin 4096, k0_pay5 v4 v5 (ix2 (0 : Fin 1) j) = ((L j.castSucc : ℝ) : EReal))
    (hs : k0_pay6 v11 (ix2 (0 : Fin 1) (0 : Fin 1)) = ((L (Fin.last 4096) : ℝ) : EReal))
    (hg : ∀ j : Fin 4096, v33 (ix3 (0 : Fin 1) (0 : Fin 1) j) = G j.castSucc)
    (hgs : v58 (ix3 (0 : Fin 1) (0 : Fin 1) (0 : Fin 1)) = G (Fin.last 4096)) :
    ∃ (k : Fin 4097) (M : ℝ), IsFirstMax (fun j => ((L j : ℝ) : EReal) + G j) k ∧ IsMax L M
      ∧ (∀ i, k0_pay1 (k0_pay5 v4 v5) (k0_pay6 v11) (k0_pay7 v4 v5 v11) (k0_pay8 v4 v5 v33) (k0_pay9 v4 v5 v33)
          (iota .tc S1x4096 32 [1] iota_S1x4096_d1_w32) (k0_pay10 v4 v5 v33) v58 i = ((L k - (M + logSum L M) : ℝ) : EReal))
      ∧ ∀ i, k0_pay2 (k0_pay6 v11) (k0_pay8 v4 v5 v33) (k0_pay9 v4 v5 v33)
          (iota .tc S1x4096 32 [1] iota_S1x4096_d1_w32) (k0_pay10 v4 v5 v33) v58 i = BitVec.ofNat 32 k.val := by
  obtain ⟨M, hM, hlse⟩ := normalizer v4 v5 v11 L hx hs
  have hp : ∀ j : Fin 4096, k0_pay8 v4 v5 v33 (ix2 (0 : Fin 1) j) = ((L j.castSucc : ℝ) : EReal) + G j.castSucc := by
    intro j
    show k0_pay5 v4 v5 (ix2 (0 : Fin 1) j) + shapeCast S1x4096 v33 shapeCasts_S1x1x4096_S1x4096 (ix2 (0 : Fin 1) j) = _
    rw [hx, lane', hg]
  obtain ⟨hle, hex⟩ := rowMax (k0_pay8 v4 v5 v33) shapeCasts_S1x4096_S1x1x4096 reduces_S1x1x4096_S1 rfl shapeCasts_S1_S1x1x1 inpos_S1x1x1_p0_0_0
  change ∀ j, _ ≤ k0_pay9 v4 v5 v33 at hle
  change ∃ j, k0_pay9 v4 v5 v33 = _ at hex
  obtain ⟨e, hw, hpe, hfirst⟩ := firstLane (k0_pay8 v4 v5 v33) (k0_pay9 v4 v5 v33) hle hex iota_S1x4096_d1_w32
    shapeCasts_S1x4096_S1x1x4096 reduces_S1x1x4096_S1 rfl shapeCasts_S1_S1x1x1 inpos_S1x1x1_p0_0_0
  have hsel := pickLane (k0_pay5 v4 v5) e iota_S1x4096_d1_w32 shapeCasts_S1x4096_S1x1x4096 reduces_S1x1x4096_S1 rfl
    shapeCasts_S1_S1x1x1 inpos_S1x1x1_p0_0_0
  have hstop : extractAt ![0, 0] (k0_pay6 v11) inpos_S1x1_p0_0 = ((L (Fin.last 4096) : ℝ) : EReal) := (only2 _ _).trans hs
  have htake : Scalar.cmpf (F := Ideal) (φ := .f32) .ogt (Scalar.addf (extractAt ![0, 0] (k0_pay6 v11) inpos_S1x1_p0_0)
      (extractAt ![0, 0, 0] v58 inpos_S1x1x1_p0_0_0)) (k0_pay9 v4 v5 v33)
      = if k0_pay9 v4 v5 v33 < ((L (Fin.last 4096) : ℝ) : EReal) + G (Fin.last 4096) then 1#1 else 0#1 := by
    rw [hstop, only3, hgs, ← ofBool_decide_eq_ite]
    rfl
  have h1 : ∀ i, k0_pay1 (k0_pay5 v4 v5) (k0_pay6 v11) (k0_pay7 v4 v5 v11) (k0_pay8 v4 v5 v33) (k0_pay9 v4 v5 v33)
          (iota .tc S1x4096 32 [1] iota_S1x4096_d1_w32) (k0_pay10 v4 v5 v33) v58 i
      = (Scalar.select (if k0_pay9 v4 v5 v33 < ((L (Fin.last 4096) : ℝ) : EReal) + G (Fin.last 4096) then 1#1 else 0#1)
          ((L (Fin.last 4096) : ℝ) : EReal) ((L e.castSucc : ℝ) : EReal) : EReal) - ((M + logSum L M : ℝ) : EReal) := by
    intro i
    unfold k0_pay1 k0_pay10
    simp only []
    rw [hw, hsel, htake, hstop, hlse, hx]
    rfl
  have h2 : ∀ i, k0_pay2 (k0_pay6 v11) (k0_pay8 v4 v5 v33) (k0_pay9 v4 v5 v33)
          (iota .tc S1x4096 32 [1] iota_S1x4096_d1_w32) (k0_pay10 v4 v5 v33) v58 i
      = Scalar.select (if k0_pay9 v4 v5 v33 < ((L (Fin.last 4096) : ℝ) : EReal) + G (Fin.last 4096) then 1#1 else 0#1)
          4096#32 (BitVec.ofNat 32 e.val) := by
    intro i
    unfold k0_pay2 k0_pay10
    simp only []
    rw [hw, htake]
    rfl
  by_cases hc : k0_pay9 v4 v5 v33 < ((L (Fin.last 4096) : ℝ) : EReal) + G (Fin.last 4096)
  · refine ⟨Fin.last 4096, M, ⟨fun j => ?_, fun j hj => ?_⟩, hM, fun i => ?_, fun i => ?_⟩
    · refine Fin.lastCases le_rfl (fun j => ?_) j
      have := hle j
      rw [hp] at this
      exact this.trans hc.le
    · induction j using Fin.lastCases with
      | last => exact absurd hj (lt_irrefl _)
      | cast j =>
        have := hle j
        rw [hp] at this
        exact this.trans_lt hc
    · rw [h1, if_pos hc, select_one, ← EReal.coe_sub]
    · rw [h2, if_pos hc]; exact select_one _ _
  · refine ⟨e.castSucc, M, ⟨fun j => ?_, fun j hj => ?_⟩, hM, fun i => ?_, fun i => ?_⟩
    · show _ ≤ ((L e.castSucc : ℝ) : EReal) + G e.castSucc
      rw [← hp, hpe]
      refine Fin.lastCases (not_lt.1 hc) (fun j => ?_) j
      have := hle j
      rw [hp] at this
      exact this
    · show _ < ((L e.castSucc : ℝ) : EReal) + G e.castSucc
      rw [← hp, hpe]
      induction j using Fin.lastCases with
      | last =>
        have : (4096 : Nat) < e.val := hj
        omega
      | cast j =>
        have := hfirst j (by exact_mod_cast hj)
        rw [hp] at this
        exact this
    · rw [h1, if_neg hc, select_zero, ← EReal.coe_sub]
    · rw [h2, if_neg hc]; exact select_zero _ _

end Cert.KernelRow

end
-- ==== Proof.KernelBlock.lean ====
/- What the kernel's body leaves at one grid point: the two kept arrays written at the first point, and the two output blocks. -/
module

public import proofs.«01_k».proof.Proof.Gen.KernelIdeal.Frame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.KernelBlock

open Cert.KernelIdeal Cert.KernelIdeal.Gen

variable {F : FTy → Type} [FloatOps F]

/-- The row of the projected states that a grid point loads. -/
def projRow (i : grid0.Coords) (X : Vec F S64x128 .f32) : Vec F S1x128 .f32 :=
  View.ld X (Rect.unit (s := S64x128) (k0_off1 i) S1x128.size (k0_off1_inb i))

/-- The stop logit that a grid point loads. -/
def stopAt (i : grid0.Coords) (X : Vec F S64x128 .f32) : Vec F S1x1 .f32 :=
  View.ld X (Rect.unit (s := S64x128) (k0_off2 i) S1x1.size (k0_off2_inb i))

/-- The entry of the stop noise block that is used. -/
def stopNoise (x6 : Vec F S1x1x128 .f32) : Vec F S1x1x1 .f32 :=
  View.ld x6 (Rect.unit (s := S1x1x128) ![0, 0, 0] S1x1x1.size inb_S1x1x128_S1x1x1_0_0_0)

/-- The block of log-probabilities stored at a grid point, from the kept arrays and the loaded blocks. -/
def logpBlock (i : grid0.Coords) (P Q : Vec F S64x128 .f32) (x4 : Vec F S1x4096x128 .f32) (x5 : Vec F S1x1x4096 .f32) (x6 : Vec F S1x1x128 .f32) :
    Vec F S1x1x128 .f32 :=
  k0_pay1 (k0_pay5 (projRow i P) x4) (k0_pay6 (stopAt i Q)) (k0_pay7 (projRow i P) x4 (stopAt i Q)) (k0_pay8 (projRow i P) x4 x5)
    (k0_pay9 (projRow i P) x4 x5) (iota .tc S1x4096 32 [1] iota_S1x4096_d1_w32) (k0_pay10 (projRow i P) x4 x5) (stopNoise x6)

/-- The block of chosen numbers stored at a grid point, from the kept arrays and the loaded blocks. -/
def actionBlock (i : grid0.Coords) (P Q : Vec F S64x128 .f32) (x4 : Vec F S1x4096x128 .f32) (x5 : Vec F S1x1x4096 .f32) (x6 : Vec F S1x1x128 .f32) :
    Vec F S1x1x128 .i32 :=
  k0_pay2 (k0_pay6 (stopAt i Q)) (k0_pay8 (projRow i P) x4 x5)
    (k0_pay9 (projRow i P) x4 x5) (iota .tc S1x4096 32 [1] iota_S1x4096_d1_w32) (k0_pay10 (projRow i P) x4 x5) (stopNoise x6)

/-- The bias word loaded at the first point. -/
def bias (x3 : Vec F S1x1 .f32) : Elt F .f32 :=
  View.ld x3 (Rect.unit (s := S1x1) ![0, 0] S1x1.size inb_S1x1_S1x1_0_0) (Shape.Idx.first (by decide))

/-- The loaded word is the only entry. -/
theorem bias_eq (x3 : Vec F S1x1 .f32) : bias x3 = x3 (ValueIdx.ix2 (0 : Fin 1) (0 : Fin 1)) := by
  refine congrArg x3 (funext fun a => ?_)
  match a with
  | ⟨0, _⟩ => rfl
  | ⟨1, _⟩ => rfl

/-- A later point's block of log-probabilities. -/
theorem out_B_7 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : ¬cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) (xs0 : Vec F S64x128 .f32) (xs1 : Vec F S64x128 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xs0 xs1 = logpBlock i xs0 xs1 x4 x5 x6 := by
  frame_out
  rfl

/-- A later point's block of chosen numbers. -/
theorem out_B_8 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : ¬cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) (xs0 : Vec F S64x128 .f32) (xs1 : Vec F S64x128 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xs0 xs1 = actionBlock i xs0 xs1 x4 x5 x6 := by
  frame_out
  rfl

/-- The projected states kept by the first point. -/
theorem sout_A_0 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 = k0_pay3 x0 x1 := by
  frame_out

/-- The stop logits kept by the first point. -/
theorem sout_A_1 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) :
    sout0_A_1 c i arg1 harg1 arg2 harg2 arg3 harg3 arg4 harg4 arg5 harg5 arg6 harg6 arg7 harg7 arg8 harg8 arg9 harg9 arg10 harg10 arg11 harg11 hc0 x0 x1 x2 x3 x4 x5 x6 = k0_pay4 x0 x2 (bias x3) := by
  frame_out
  rfl

/-- The first point's block of log-probabilities. -/
theorem out_A_7 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = logpBlock i (k0_pay3 x0 x1) (k0_pay4 x0 x2 (bias x3)) x4 x5 x6 := by
  frame_out
  rfl

/-- The first point's block of chosen numbers. -/
theorem out_A_8 (c : Dev nD) (i : grid0.Coords) (arg1 : Memref sig .tc .vmem S64x1024 .f32) (harg1 : arg1.IsWhole) (arg2 : Memref sig .tc .vmem S1024x128 .f32) (harg2 : arg2.IsWhole) (arg3 : Memref sig .tc .vmem S1024x128 .f32) (harg3 : arg3.IsWhole) (arg4 : Memref sig .tc .smem S1x1 .f32) (harg4 : arg4.IsWhole) (arg5 : Memref sig .tc .vmem S1x4096x128 .f32) (harg5 : arg5.IsWhole) (arg6 : Memref sig .tc .vmem S1x1x4096 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .i32) (harg9 : arg9.IsWhole) (arg10 : Memref sig .tc .vmem S64x128 .f32) (harg10 : arg10.IsWhole) (arg11 : Memref sig .tc .vmem S64x128 .f32) (harg11 : arg11.IsWhole) (hc0 : cond0_0 i)
    (x0 : Vec F S64x1024 .f32) (x1 : Vec F S1024x128 .f32) (x2 : Vec F S1024x128 .f32) (x3 : Vec F S1x1 .f32) (x4 : Vec F S1x4096x128 .f32) (x5 : Vec F S1x1x4096 .f32) (x6 : Vec F S1x1x128 .f32) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 = actionBlock i (k0_pay3 x0 x1) (k0_pay4 x0 x2 (bias x3)) x4 x5 x6 := by
  frame_out
  rfl

variable (m : (ℓ : Loc nD τ sig) → Buf (Elt F) ℓ)

/-- The first grid point. -/
def first : Fin cfg0.N := ⟨0, by rw [show cfg0.N = 64 from N_0]; norm_num⟩

/-- The projected states, from the arrays as the first point loads them. -/
def proj (c : Dev nD) : Vec F S64x128 .f32 := k0_pay3 (iblk m c 0 first) (iblk m c 1 first)

/-- The stop logits, from the arrays as the first point loads them. -/
def stop (c : Dev nD) : Vec F S64x128 .f32 := k0_pay4 (iblk m c 0 first) (iblk m c 2 first) (bias (iblk m c 3 first))

/-- At every grid point the body leaves the two blocks of that point's row and keeps the first point's two arrays. -/
theorem outs (c : Dev nD) : ∀ (n : ℕ) (h : n < cfg0.N), outsAt0 m c n h =
    (logpBlock (grid0.coords ⟨n, h⟩) (proj m c) (stop m c) (iblk m c 4 ⟨n, h⟩) (iblk m c 5 ⟨n, h⟩) (iblk m c 6 ⟨n, h⟩),
      actionBlock (grid0.coords ⟨n, h⟩) (proj m c) (stop m c) (iblk m c 4 ⟨n, h⟩) (iblk m c 5 ⟨n, h⟩) (iblk m c 6 ⟨n, h⟩), proj m c, stop m c) := by
  intro n
  induction n with
  | zero =>
    intro h
    refine (outsAt0_A m c ⟨0, h⟩ (Nat.zero_mod _)).trans ?_
    rw [out_A_7, out_A_8, sout_A_0, sout_A_1]
    rfl
  | succ n ih =>
    intro h
    have h64 : n + 1 < 64 := lt_of_lt_of_eq h N_0
    refine (outsAt0_B m c ⟨n + 1, h⟩ (by show ¬(n + 1) % 64 = 0; omega)).trans ?_
    rw [out_B_7, out_B_8]
    have := ih (Nat.lt_of_succ_lt h)
    simp only [Nat.add_sub_cancel]
    unfold sout0_B_0 sout0_B_1
    rw [this]

end Cert.KernelBlock

end
-- ==== Proof.KernelArrays.lean ====
/- What the kernel's two output arrays hold after the grid, and what a grid point's input blocks hold, entry by entry. -/
module

public import proofs.«01_k».proof.Proof.KernelBlock
public import Idealize.ShloMosaic.Lib.ValueIdx

@[expose] public section

set_option maxRecDepth 16384

noncomputable section

open Idealize.ShloMosaic hiding ix0 ix1 ix2 ix3 ix4 ix5
open Idealize.ShloMosaic.TcCoe Idealize.SL.Sem

namespace Cert.KernelArrays

open Cert.KernelIdeal Cert.KernelIdeal.Gen Cert.KernelBlock Idealize.ShloMosaic.ValueIdx

variable {F : FTy → Type} [FloatOps F]
variable (m : (ℓ : Loc nD τ sig) → Buf (Elt F) ℓ)

/-- The grid point of a row. -/
def pt (b : Fin 64) : Fin cfg0.N := ⟨b.val, lt_of_lt_of_eq b.isLt N_0.symm⟩

theorem coord (t : Fin cfg0.N) : (grid0.coords t 0).val = t.val :=
  (by decide +kernel : ∀ t : Fin grid0.N, (grid0.coords t 0).val = t.val) t

theorem e0 (t : Fin cfg0.N) : win0_0.index t = ![0, 0] :=
  (by decide +kernel : ∀ t : Fin grid0.N, win0_0.index t = ![0, 0]) t
theorem e1 (t : Fin cfg0.N) : win0_1.index t = ![0, 0] :=
  (by decide +kernel : ∀ t : Fin grid0.N, win0_1.index t = ![0, 0]) t
theorem e2 (t : Fin cfg0.N) : win0_2.index t = ![0, 0] :=
  (by decide +kernel : ∀ t : Fin grid0.N, win0_2.index t = ![0, 0]) t
theorem e3 (t : Fin cfg0.N) : win0_3.index t = ![0, 0] :=
  (by decide +kernel : ∀ t : Fin grid0.N, win0_3.index t = ![0, 0]) t
theorem e4 (t : Fin cfg0.N) : win0_4.index t = ![t.val, 0, 0] :=
  (by decide +kernel : ∀ t : Fin grid0.N, win0_4.index t = ![t.val, 0, 0]) t
theorem e5 (t : Fin cfg0.N) : win0_5.index t = ![t.val, 0, 0] :=
  (by decide +kernel : ∀ t : Fin grid0.N, win0_5.index t = ![t.val, 0, 0]) t
theorem e6 (t : Fin cfg0.N) : win0_6.index t = ![t.val, 0, 0] :=
  (by decide +kernel : ∀ t : Fin grid0.N, win0_6.index t = ![t.val, 0, 0]) t
theorem e7 (t : Fin cfg0.N) : win0_7.index t = ![t.val, 0, 0] :=
  (by decide +kernel : ∀ t : Fin grid0.N, win0_7.index t = ![t.val, 0, 0]) t
theorem e8 (t : Fin cfg0.N) : win0_8.index t = ![t.val, 0, 0] :=
  (by decide +kernel : ∀ t : Fin grid0.N, win0_8.index t = ![t.val, 0, 0]) t

/-- The states as a grid point loads them are the whole array. -/
theorem blk0 (c : Dev nD) (t : Fin cfg0.N) (i : Fin 64) (k : Fin 1024) :
    (iblk m c 0 t : Vec F S64x1024 .f32) (ix2 i k) = (V m c main_arg0 : Vec F S64x1024 .f32) (ix2 i k) := by
  blk_simp [iblk]
  refine congrArg (V m c main_arg0 : Vec F S64x1024 .f32) ?_
  blk_ext [e0]

/-- The projection as a grid point loads it is the whole array. -/
theorem blk1 (c : Dev nD) (t : Fin cfg0.N) (i : Fin 1024) (k : Fin 128) :
    (iblk m c 1 t : Vec F S1024x128 .f32) (ix2 i k) = (V m c main_arg2 : Vec F S1024x128 .f32) (ix2 i k) := by
  blk_simp [iblk]
  refine congrArg (V m c main_arg2 : Vec F S1024x128 .f32) ?_
  blk_ext [e1]

/-- The padded stop weights as a grid point loads them are the whole array. -/
theorem blk2 (c : Dev nD) (t : Fin cfg0.N) (i : Fin 1024) (k : Fin 128) :
    (iblk m c 2 t : Vec F S1024x128 .f32) (ix2 i k) = (V m c main_v17 : Vec F S1024x128 .f32) (ix2 i k) := by
  blk_simp [iblk]
  refine congrArg (V m c main_v17 : Vec F S1024x128 .f32) ?_
  blk_ext [e2]

/-- The stop bias as a grid point loads it. -/
theorem blk3 (c : Dev nD) (t : Fin cfg0.N) (i k : Fin 1) :
    (iblk m c 3 t : Vec F S1x1 .f32) (ix2 i k) = (V m c main_v18 : Vec F S1x1 .f32) (ix2 i k) := by
  blk_simp [iblk]
  refine congrArg (V m c main_v18 : Vec F S1x1 .f32) ?_
  blk_ext [e3]

/-- A grid point's edge block is that row of the edge features. -/
theorem blk4 (c : Dev nD) (b : Fin 64) (j : Fin 4096) (k : Fin 128) :
    (iblk m c 4 (pt b) : Vec F S1x4096x128 .f32) (ix3 (0 : Fin 1) j k) = (V m c main_arg1 : Vec F S64x4096x128 .f32) (ix3 b j k) := by
  blk_simp [iblk]
  refine congrArg (V m c main_arg1 : Vec F S64x4096x128 .f32) ?_
  blk_ext [e4, pt]

/-- A grid point's edge noise block is that row of the edge noise. -/
theorem blk5 (c : Dev nD) (b : Fin 64) (j : Fin 4096) :
    (iblk m c 5 (pt b) : Vec F S1x1x4096 .f32) (ix3 (0 : Fin 1) (0 : Fin 1) j) = (V m c main_v13 : Vec F S64x1x4096 .f32) (ix3 b (0 : Fin 1) j) := by
  blk_simp [iblk]
  refine congrArg (V m c main_v13 : Vec F S64x1x4096 .f32) ?_
  blk_ext [e5, pt]

/-- A grid point's stop noise block is that row of the stop noise. -/
theorem blk6 (c : Dev nD) (b : Fin 64) (l : Fin 128) :
    (iblk m c 6 (pt b) : Vec F S1x1x128 .f32) (ix3 (0 : Fin 1) (0 : Fin 1) l) = (V m c main_v16 : Vec F S64x1x128 .f32) (ix3 b (0 : Fin 1) l) := by
  blk_simp [iblk]
  refine congrArg (V m c main_v16 : Vec F S64x1x128 .f32) ?_
  blk_ext [e6, pt]

/-- The log-probabilities of all rows. -/
def logp (c : Dev nD) : Vec F S64x1x128 .f32 := fun i =>
  logpBlock (grid0.coords (pt (i 0))) (proj m c) (stop m c) (iblk m c 4 (pt (i 0))) (iblk m c 5 (pt (i 0))) (iblk m c 6 (pt (i 0)))
    (ix3 (0 : Fin 1) (0 : Fin 1) (i 2))

/-- The chosen numbers of all rows. -/
def action (c : Dev nD) : Vec F S64x1x128 .i32 := fun i =>
  actionBlock (grid0.coords (pt (i 0))) (proj m c) (stop m c) (iblk m c 4 (pt (i 0))) (iblk m c 5 (pt (i 0))) (iblk m c 6 (pt (i 0)))
    (ix3 (0 : Fin 1) (0 : Fin 1) (i 2))

/-- The first output array ends at the log-probabilities. -/
theorem final7 (c : Dev nD) : (dats m 0 c).arrAt 7 cfg0.N = logp m c := by
  refine (dats m 0 c).arrAt_eq_of_covers 7 _ (by decide +kernel) fun t hf y => ?_
  blk_simp
  rw [after0_7, outs]
  have hpt : pt ((win0_7.blk t).view.emb y 0) = t := by
    apply Fin.ext
    show ((win0_7.blk t).view.emb y 0).val = t.val
    have h1 : (y 0 : Nat) < 1 := (y 0).isLt
    blk_simp [e7]
  have hy : ix3 (0 : Fin 1) (0 : Fin 1) ((win0_7.blk t).view.emb y 2 : Fin 128) = y := by
    funext a
    apply Fin.ext
    have h0 : (y 0 : Nat) < 1 := (y 0).isLt
    have h1 : (y 1 : Nat) < 1 := (y 1).isLt
    match a with
    | ⟨0, _⟩ => show 0 = (y 0 : Nat); omega
    | ⟨1, _⟩ => show 0 = (y 1 : Nat); omega
    | ⟨2, _⟩ =>
      show ((win0_7.blk t).view.emb y 2).val = (y 2 : Nat)
      blk_simp [e7]
  show logpBlock (grid0.coords t) (proj m c) (stop m c) (iblk m c 4 t) (iblk m c 5 t) (iblk m c 6 t) y = _
  unfold logp
  rw [hpt]
  exact congrArg _ hy.symm

/-- The second output array ends at the chosen numbers. -/
theorem final8 (c : Dev nD) : (dats m 0 c).arrAt 8 cfg0.N = action m c := by
  refine (dats m 0 c).arrAt_eq_of_covers 8 _ (by decide +kernel) fun t hf y => ?_
  blk_simp
  rw [after0_8, outs]
  have hpt : pt ((win0_8.blk t).view.emb y 0) = t := by
    apply Fin.ext
    show ((win0_8.blk t).view.emb y 0).val = t.val
    have h1 : (y 0 : Nat) < 1 := (y 0).isLt
    blk_simp [e8]
  have hy : ix3 (0 : Fin 1) (0 : Fin 1) ((win0_8.blk t).view.emb y 2 : Fin 128) = y := by
    funext a
    apply Fin.ext
    have h0 : (y 0 : Nat) < 1 := (y 0).isLt
    have h1 : (y 1 : Nat) < 1 := (y 1).isLt
    match a with
    | ⟨0, _⟩ => show 0 = (y 0 : Nat); omega
    | ⟨1, _⟩ => show 0 = (y 1 : Nat); omega
    | ⟨2, _⟩ =>
      show ((win0_8.blk t).view.emb y 2).val = (y 2 : Nat)
      blk_simp [e8]
  show actionBlock (grid0.coords t) (proj m c) (stop m c) (iblk m c 4 t) (iblk m c 5 t) (iblk m c 6 t) y = _
  unfold action
  rw [hpt]
  exact congrArg _ hy.symm

end Cert.KernelArrays

end
-- ==== Proof.Sim.lean ====
/- Two programs that run the same host operations, in the same order, on buffers a constant number of places apart: what
   one operation writes stays equal on the two sides, so the whole stretches leave equal contents. -/
module

public import Idealize.ShloMosaic.Lib.StableHlo.RunHlo

@[expose] public section

noncomputable section

namespace Cert.Sim

open Idealize.ShloMosaic Idealize.SL.Sem Idealize.ShloMosaic.StableHlo

variable {τ₁ τ₂ : Topo} {sig₁ sig₂ : RefSig} {Val : EltTy → Type}
variable {T Ta Tb Tc Ty : BufTy}

/-- Buffer `y` of the second program stands `d` places after buffer `x` of the first, and `x` lies in the range from `lo` to `k`. -/
def chk (lo d k : Nat) (x : Ref sig₁ .tc) (y : Ref sig₂ .tc) : Bool :=
  decide (x.space = .hbm) && decide (y.space = .hbm) && Nat.ble lo x.idx.val && Nat.ble (x.idx.val + 1) k
    && Nat.beq y.idx.val (x.idx.val + d)

theorem chk_iff (lo d k : Nat) (x : Ref sig₁ .tc) (y : Ref sig₂ .tc) :
    chk lo d k x y = true ↔ x.space = .hbm ∧ y.space = .hbm ∧ lo ≤ x.idx.val ∧ x.idx.val < k ∧ y.idx.val = x.idx.val + d := by
  simp only [chk, Bool.and_eq_true, decide_eq_true_eq, Nat.ble_eq, Nat.beq_eq]
  constructor
  · rintro ⟨⟨⟨⟨h1, h2⟩, h3⟩, h4⟩, h5⟩; exact ⟨h1, h2, h3, h4, h5⟩
  · rintro ⟨h1, h2, h3, h4, h5⟩; exact ⟨⟨⟨⟨h1, h2⟩, h3⟩, h4⟩, h5⟩

/-- Two references to main memory at the same place are one. -/
theorem ref_ext {sig : RefSig} {x y : Ref sig .tc} (hx : x.space = .hbm) (hy : y.space = .hbm) (h : x.idx.val = y.idx.val) :
    x = y := by
  obtain ⟨sx, ix, nx⟩ := x
  obtain ⟨sy, iy, ny⟩ := y
  dsimp only at hx hy h
  subst hx; subst hy
  obtain rfl := Fin.ext h
  rfl

/-- The two valuations agree on corresponding buffers of the range. -/
def Agree (lo d k : Nat) (V : Valuation τ₁ sig₁ Val) (W : Valuation τ₂ sig₂ Val) : Prop :=
  ∀ (T : BufTy) (x : TRef sig₁ T) (y : TRef sig₂ T), chk lo d k x.ref y.ref = true →
    x.ofBuf (V (Proc.devRef .tc x.ref)) = y.ofBuf (W (Proc.devRef .tc y.ref))

/-- Nothing to agree on before the range begins. -/
theorem agree_start (lo d : Nat) (V : Valuation τ₁ sig₁ Val) (W : Valuation τ₂ sig₂ Val) : Agree lo d lo V W := by
  intro T x y h
  rw [chk_iff] at h
  omega

/-- One operation on each side carries agreement one buffer further. -/
def Step (lo d k : Nat) (op : HloOp τ₁ sig₁ Val) (op' : HloOp τ₂ sig₂ Val) : Prop :=
  ∀ V W, Agree lo d k V W → Agree lo d (k + 1) (op.result V) (op'.result W)

/-- Two operations, each writing one buffer, carry agreement further when what they write is equal. -/
theorem step_of (lo d k : Nat) (op : HloOp τ₁ sig₁ Val) (op' : HloOp τ₂ sig₂ Val) (y : TRef sig₁ Ty) (y' : TRef sig₂ Ty)
    (hw : op.writes = {Proc.devRef (τ := τ₁) .tc y.ref}) (hw' : op'.writes = {Proc.devRef (τ := τ₂) .tc y'.ref})
    (hy : chk k d (k + 1) y.ref y'.ref = true)
    (h : ∀ V W, Agree lo d k V W → y.ofBuf (op.result V (Proc.devRef .tc y.ref)) = y'.ofBuf (op'.result W (Proc.devRef .tc y'.ref))) :
    Step lo d k op op' := by
  intro V W hVW T a b hab
  rw [chk_iff] at hab hy
  obtain ⟨ha, hb, hlo, hlt, he⟩ := hab
  obtain ⟨sy, sy', h1, h2, h3⟩ := hy
  by_cases hk : a.ref.idx.val = k
  · have e1 : a.ref = y.ref := ref_ext ha sy (by omega)
    have e2 : b.ref = y'.ref := ref_ext hb sy' (by omega)
    have hT : T = Ty := by rw [← a.ty_eq, e1, y.ty_eq]
    subst hT
    have ea : a = y := by cases a; cases y; cases e1; rfl
    have eb : b = y' := by cases b; cases y'; cases e2; rfl
    subst ea; subst eb
    exact h V W hVW
  · have n1 : a.ref ≠ y.ref := fun e => hk (by rw [e]; omega)
    have n2 : b.ref ≠ y'.ref := fun e => hk (by rw [e] at he; omega)
    rw [result_of_writes_ne op V _ _ hw n1, result_of_writes_ne op' W _ _ hw' n2]
    exact hVW T a b ((chk_iff ..).2 ⟨ha, hb, hlo, by omega, he⟩)

/-- A constant on both sides. -/
theorem step_nullary {lo d k : Nat} {y : TRef sig₁ Ty} {y' : TRef sig₂ Ty} {v : Ty.Contents Val}
    (hy : chk k d (k + 1) y.ref y'.ref = true) :
    Step (τ₁ := τ₁) (τ₂ := τ₂) lo d k (TRef.nullary y v) (TRef.nullary y' v) :=
  step_of lo d k _ _ y y' rfl rfl hy fun V W _ => by
    rw [nullary_result, nullary_result, TRef.ofBuf_toBuf, TRef.ofBuf_toBuf]

/-- The same function of one operand on both sides. -/
theorem step_unary {lo d k : Nat} {x : TRef sig₁ T} {y : TRef sig₁ Ty} {x' : TRef sig₂ T} {y' : TRef sig₂ Ty}
    {f : T.Contents Val → Ty.Contents Val} (hx : chk lo d k x.ref x'.ref = true) (hy : chk k d (k + 1) y.ref y'.ref = true) :
    Step (τ₁ := τ₁) (τ₂ := τ₂) lo d k (TRef.unary x y f) (TRef.unary x' y' f) :=
  step_of lo d k _ _ y y' rfl rfl hy fun V W hVW => by
    rw [unary_result, unary_result, TRef.ofBuf_toBuf, TRef.ofBuf_toBuf, hVW T x x' hx]

/-- The same function of two operands on both sides. -/
theorem step_binary {lo d k : Nat} {a : TRef sig₁ Ta} {b : TRef sig₁ Tb} {y : TRef sig₁ Ty} {a' : TRef sig₂ Ta} {b' : TRef sig₂ Tb}
    {y' : TRef sig₂ Ty} {f : Ta.Contents Val → Tb.Contents Val → Ty.Contents Val} (ha : chk lo d k a.ref a'.ref = true)
    (hb : chk lo d k b.ref b'.ref = true) (hy : chk k d (k + 1) y.ref y'.ref = true) :
    Step (τ₁ := τ₁) (τ₂ := τ₂) lo d k (TRef.binary a b y f) (TRef.binary a' b' y' f) :=
  step_of lo d k _ _ y y' rfl rfl hy fun V W hVW => by
    rw [binary_result, binary_result, TRef.ofBuf_toBuf, TRef.ofBuf_toBuf, hVW Ta a a' ha, hVW Tb b b' hb]

/-- What a change of shape leaves in its buffer, at the types of the values. -/
theorem reshape_read {τ : Topo} {sig : RefSig} (x : TRef sig T) (y : TRef sig Ty) (he : T.elt = Ty.elt)
    (hn : T.shape.ShapeCasts Ty.shape) (V : Valuation τ sig Val) :
    y.ofBuf ((TRef.reshape x y he hn : HloOp τ sig Val).result V (Proc.devRef .tc y.ref))
      = fun i => he ▸ shapeCast Ty.shape (x.ofBuf (V (Proc.devRef .tc x.ref))) hn i := by
  obtain ⟨x, rfl, _, _⟩ := x
  obtain ⟨y, rfl, _, _⟩ := y
  rw [reshape_result]
  rfl

/-- The same change of shape on both sides. -/
theorem step_reshape {lo d k : Nat} {x : TRef sig₁ T} {y : TRef sig₁ Ty} {x' : TRef sig₂ T} {y' : TRef sig₂ Ty}
    {he : T.elt = Ty.elt} {hn : T.shape.ShapeCasts Ty.shape}
    (hx : chk lo d k x.ref x'.ref = true) (hy : chk k d (k + 1) y.ref y'.ref = true) :
    Step (τ₁ := τ₁) (τ₂ := τ₂) (Val := Val) lo d k (TRef.reshape x y he hn) (TRef.reshape x' y' he hn) :=
  step_of lo d k _ _ y y' rfl rfl hy fun V W hVW => by
    rw [reshape_read, reshape_read, hVW T x x' hx]

/-- Two stretches carry agreement from one place to another. -/
def Sim (lo d k k' : Nat) (l : List (HloOp τ₁ sig₁ Val)) (l' : List (HloOp τ₂ sig₂ Val)) : Prop :=
  ∀ V W, Agree lo d k V W → Agree lo d k' (after l V) (after l' W)

theorem Sim.nil {lo d k k' : Nat} (h : k = k') : Sim (τ₁ := τ₁) (τ₂ := τ₂) (sig₁ := sig₁) (sig₂ := sig₂) (Val := Val) lo d k k' [] [] := by
  subst h; exact fun V W h => h

theorem Sim.cons {lo d k k' : Nat} {op : HloOp τ₁ sig₁ Val} {op' : HloOp τ₂ sig₂ Val} {l : List (HloOp τ₁ sig₁ Val)}
    {l' : List (HloOp τ₂ sig₂ Val)} (h : Step lo d k op op') (hl : Sim lo d (k + 1) k' l l') :
    Sim lo d k k' (op :: l) (op' :: l') :=
  fun V W hVW => hl _ _ (h V W hVW)

end Cert.Sim

end
-- ==== Proof.Gumbel.lean ====
/- The noise of the two programs: both draw it by the same operations from the same key, on buffers twenty-five places apart,
   so it is one array. -/
module

public import proofs.«01_k».proof.Proof.Sim
public import proofs.«01_k».proof.Proof.RefOps
public import proofs.«01_k».proof.Proof.Gen.KernelIdeal.Launch

@[expose] public section

set_option maxRecDepth 16384

noncomputable section

namespace Cert.Gumbel

open Idealize.ShloMosaic Idealize.SL.Sem Idealize.ShloMosaic.StableHlo Cert.Sim

variable {F : FTy → Type} [FloatOps F]

section Kernel

open Cert.KernelIdeal Cert.KernelIdeal.Gen

/-- The kernel's operations that make the key, over typed references. -/
abbrev keyOps : List (HloOp τ sig (Elt F)) :=
  [ StableHlo.TRef.nullary (.of main_c : StableHlo.TRef sig ⟨S_, .i32⟩) (constantI S_ 32 1#32)
  , StableHlo.TRef.nullary (.of main_c_0 : StableHlo.TRef sig ⟨S_, .i32⟩) (constantI S_ 32 32#32)
  , StableHlo.TRef.binary (.of main_c : StableHlo.TRef sig ⟨S_, .i32⟩) (.of main_c_0 : StableHlo.TRef sig ⟨S_, .i32⟩) (.of main_v0 : StableHlo.TRef sig ⟨S_, .i32⟩) (Host.shrui)
  , StableHlo.TRef.unary (.of main_v0 : StableHlo.TRef sig ⟨S_, .i32⟩) (.of main_v1 : StableHlo.TRef sig ⟨S_, .i32⟩) (id)
  , StableHlo.TRef.unary (.of main_v1 : StableHlo.TRef sig ⟨S_, .i32⟩) (.of main_v2 : StableHlo.TRef sig ⟨S1, .i32⟩) (broadcastInDim S1 ![] bcast_S_S1)
  , StableHlo.TRef.nullary (.of main_c_1 : StableHlo.TRef sig ⟨S_, .i32⟩) (constantI S_ 32 4294967295#32)
  , StableHlo.TRef.binary (.of main_c : StableHlo.TRef sig ⟨S_, .i32⟩) (.of main_c_1 : StableHlo.TRef sig ⟨S_, .i32⟩) (.of main_v3 : StableHlo.TRef sig ⟨S_, .i32⟩) (andi)
  , StableHlo.TRef.unary (.of main_v3 : StableHlo.TRef sig ⟨S_, .i32⟩) (.of main_v4 : StableHlo.TRef sig ⟨S_, .i32⟩) (id)
  , StableHlo.TRef.unary (.of main_v4 : StableHlo.TRef sig ⟨S_, .i32⟩) (.of main_v5 : StableHlo.TRef sig ⟨S1, .i32⟩) (broadcastInDim S1 ![] bcast_S_S1)
  , StableHlo.TRef.binary (.of main_v2 : StableHlo.TRef sig ⟨S1, .i32⟩) (.of main_v5 : StableHlo.TRef sig ⟨S1, .i32⟩) (.of main_v6 : StableHlo.TRef sig ⟨S2, .i32⟩) ((fun a b => concatenate S2 0 [⟨S1, a⟩, ⟨S1, b⟩] concatenates_S1_S1_S2_d0))
  , StableHlo.TRef.nullary (.of main_cst : StableHlo.TRef sig ⟨S_, .f32⟩) (constant S_ .f32 0x3089705F#32)
  , StableHlo.TRef.nullary (.of main_cst_2 : StableHlo.TRef sig ⟨S_, .f32⟩) (constant S_ .f32 0x3F800000#32) ]

/-- They are the host operations before the uniform draw. -/
theorem keyOps_eq : (hostOps0 : List (HloOp τ sig (Elt F))) = keyOps := rfl

/-- The kernel's operations from the uniform draw to the noise, over typed references. -/
abbrev logOps : List (HloOp τ sig (Elt F)) :=
  [ StableHlo.TRef.unary (.of main_v7 : StableHlo.TRef sig ⟨S64x4097, .f32⟩) (.of main_v8 : StableHlo.TRef sig ⟨S64x4097, .f32⟩) (Host.log)
  , StableHlo.TRef.unary (.of main_v8 : StableHlo.TRef sig ⟨S64x4097, .f32⟩) (.of main_v9 : StableHlo.TRef sig ⟨S64x4097, .f32⟩) (Host.negf)
  , StableHlo.TRef.unary (.of main_v9 : StableHlo.TRef sig ⟨S64x4097, .f32⟩) (.of main_v10 : StableHlo.TRef sig ⟨S64x4097, .f32⟩) (Host.log)
  , StableHlo.TRef.unary (.of main_v10 : StableHlo.TRef sig ⟨S64x4097, .f32⟩) (.of main_v11 : StableHlo.TRef sig ⟨S64x4097, .f32⟩) (Host.negf) ]

/-- The kernel's operations after the noise, up to the padding. -/
abbrev sliceOps : List (HloOp τ sig (Elt F)) := hostOps0_2.drop 4

/-- The host operations after the uniform draw are those to the noise and those after it. -/
theorem logOps_eq : (hostOps0_2 : List (HloOp τ sig (Elt F))) = logOps ++ sliceOps := rfl

end Kernel

section Reference

open Cert.ReferenceIdeal Cert.ReferenceIdeal.Gen

/-- The reference's operations from the uniform draw to the noise. -/
abbrev refLogOps : List (HloOp τ sig (Elt F)) :=
  [ StableHlo.TRef.unary (.of main_v17 : StableHlo.TRef sig ⟨S64x4097, .f32⟩) (.of main_v18 : StableHlo.TRef sig ⟨S64x4097, .f32⟩) (Host.log)
  , StableHlo.TRef.unary (.of main_v18 : StableHlo.TRef sig ⟨S64x4097, .f32⟩) (.of main_v19 : StableHlo.TRef sig ⟨S64x4097, .f32⟩) (Host.negf)
  , StableHlo.TRef.unary (.of main_v19 : StableHlo.TRef sig ⟨S64x4097, .f32⟩) (.of main_v20 : StableHlo.TRef sig ⟨S64x4097, .f32⟩) (Host.log)
  , StableHlo.TRef.unary (.of main_v20 : StableHlo.TRef sig ⟨S64x4097, .f32⟩) (.of main_v21 : StableHlo.TRef sig ⟨S64x4097, .f32⟩) (Host.negf) ]

/-- The reference's sum of the log-probabilities and the noise. -/
abbrev refSumOps : List (HloOp τ sig (Elt F)) :=
  [ StableHlo.TRef.binary (.of main_v9 : StableHlo.TRef sig ⟨S64x4097, .f32⟩) (.of main_v21 : StableHlo.TRef sig ⟨S64x4097, .f32⟩) (.of main_v22 : StableHlo.TRef sig ⟨S64x4097, .f32⟩) (addf) ]

theorem refLogOps_eq : (Cert.RefRun.ops4 : List (HloOp τ sig (Elt F))) = refLogOps ++ refSumOps := rfl

end Reference

/-- The key is made alike. -/
theorem sim_key : Sim 5 25 5 17 (keyOps : List (HloOp _ _ (Elt F))) Cert.RefRun.ops2 :=
  Sim.cons (step_nullary rfl) <|
  Sim.cons (step_nullary rfl) <|
  Sim.cons (step_binary rfl rfl rfl) <|
  Sim.cons (step_unary rfl rfl) <|
  Sim.cons (step_unary rfl rfl) <|
  Sim.cons (step_nullary rfl) <|
  Sim.cons (step_binary rfl rfl rfl) <|
  Sim.cons (step_unary rfl rfl) <|
  Sim.cons (step_unary rfl rfl) <|
  Sim.cons (step_binary rfl rfl rfl) <|
  Sim.cons (step_nullary rfl) <|
  Sim.cons (step_nullary rfl) <|
  Sim.nil rfl

set_option maxHeartbeats 40000000 in
/-- The uniform numbers are drawn alike. -/
theorem sim_uniform : Sim 5 25 17 279 (Cert.KernelIdeal.Gen.hostOps0_1 : List (HloOp _ _ (Elt F))) Cert.RefRun.ops3 := by
  unfold Cert.KernelIdeal.Gen.hostOps0_1 Cert.RefRun.ops3
  refine Sim.cons (step_unary rfl rfl) ?_
  refine Sim.cons (step_unary rfl rfl) ?_
  refine Sim.cons (step_unary rfl rfl) ?_
  refine Sim.cons (step_unary rfl rfl) ?_
  refine Sim.cons (step_unary rfl rfl) ?_
  refine Sim.cons (step_reshape rfl rfl) ?_
  refine Sim.cons (step_unary rfl rfl) ?_
  refine Sim.cons (step_reshape rfl rfl) ?_
  refine Sim.cons (step_nullary rfl) ?_
  refine Sim.cons (step_nullary rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_unary rfl rfl) ?_
  refine Sim.cons (step_unary rfl rfl) ?_
  refine Sim.cons (step_binary rfl rfl rfl) ?_
  refine Sim.cons (step_nullary rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_nullary rfl) ?_
  refine Sim.cons (step_unary rfl rfl) ?_
  refine Sim.cons (step_binary rfl rfl rfl) ?_
  refine Sim.cons (step_unary rfl rfl) ?_
  refine Sim.cons (step_nullary rfl) ?_
  refine Sim.cons (step_unary rfl rfl) ?_
  refine Sim.cons (step_binary rfl rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  refine Sim.cons (step_unary rfl rfl) ?_
  refine Sim.cons (step_binary rfl rfl rfl) ?_
  exact Sim.nil rfl

/-- The logarithms are taken alike. -/
theorem sim_log : Sim 5 25 279 283 (logOps : List (HloOp _ _ (Elt F))) refLogOps :=
  Sim.cons (step_unary rfl rfl) <|
  Sim.cons (step_unary rfl rfl) <|
  Sim.cons (step_unary rfl rfl) <|
  Sim.cons (step_unary rfl rfl) <|
  Sim.nil rfl

/-- The noise of the kernel is the noise of the reference, whatever the buffers hold before. -/
theorem noise_eq (V : Valuation Cert.KernelIdeal.τ Cert.KernelIdeal.sig (Elt F))
    (W : Valuation Cert.ReferenceIdeal.τ Cert.ReferenceIdeal.sig (Elt F)) :
    (after logOps (after Cert.KernelIdeal.Gen.hostOps0_1 (after Cert.KernelIdeal.Gen.hostOps0 V))
        (Proc.devRef .tc Cert.KernelIdeal.main_v11) : (⟨Cert.KernelIdeal.S64x4097, .f32⟩ : BufTy).Contents (Elt F))
      = after refLogOps (after Cert.RefRun.ops3 (after Cert.RefRun.ops2 W)) (Proc.devRef .tc Cert.ReferenceIdeal.main_v21) :=
  sim_log _ _ (sim_uniform _ _ (sim_key V W (agree_start 5 25 V W))) ⟨Cert.KernelIdeal.S64x4097, .f32⟩
    (.of Cert.KernelIdeal.main_v11) (.of Cert.ReferenceIdeal.main_v21) rfl

end Cert.Gumbel

end
-- ==== Proof.KernelEntry.lean ====
/- What the kernel's host operations leave, before the grid, in the arrays the grid's windows read. -/
module

public import proofs.«01_k».proof.Proof.Gumbel
public import proofs.«01_k».proof.Proof.Gen.KernelIdeal.Frame
public import Idealize.ShloMosaic.Lib.ValueIdx
public import Idealize.ShloMosaic.Lib.Pipeline.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.KernelEntry

open Cert.KernelIdeal Cert.KernelIdeal.Gen Cert.Gumbel Idealize.ShloMosaic.ValueIdx

variable {F : FTy → Type} [FloatOps F]
variable (m : (ℓ : Loc nD τ sig) → Buf (Elt F) ℓ)

/-- The contents once the noise is drawn. -/
def drawn (c : Dev nD) : Valuation τ sig (Elt F) := after logOps (after hostOps0_1 (after hostOps0 fun b => m (c, b)))

/-- The noise. -/
def noise (c : Dev nD) : (⟨S64x4097, .f32⟩ : BufTy).Contents (Elt F) := drawn m c (Proc.devRef .tc main_v11)

/-- The operations after the noise. -/
abbrev restOps : List (HloOp τ sig (Elt F)) := sliceOps ++ (hostOps0_3 ++ hostOps0_4)

/-- Five lists in a row, the third of two parts, split after its first part. -/
theorem split_five (a b l s d e : List (HloOp τ sig (Elt F))) (V : Valuation τ sig (Elt F)) :
    after (List.flatten [a, b, l ++ s, d, e]) V = after (s ++ (d ++ e)) (after l (after b (after a V))) := by
  simp only [List.flatten_cons, List.flatten_nil, List.append_nil, after_append]

/-- The contents before the grid: the operations after the noise, on the contents once it is drawn. -/
theorem entry (c : Dev nD) : V0 m c = after restOps (drawn m c) := by
  have h : V0 m c = after (List.flatten [hostOps0, hostOps0_1, logOps ++ sliceOps, hostOps0_3, hostOps0_4]) fun b => m (c, b) := by
    rw [← logOps_eq]
  exact h.trans (split_five hostOps0 hostOps0_1 logOps sliceOps hostOps0_3 hostOps0_4 _)

/-- The edge noise is the noise's first 4096 columns. -/
theorem read_v13 (U : Valuation τ sig (Elt F)) : (after restOps U (Proc.devRef .tc main_v13) : (⟨S64x1x4096, .f32⟩ : BufTy).Contents (Elt F))
    = shapeCast S64x1x4096 (extractStridedSlice S64x4096 ![0, 0] (U (Proc.devRef .tc main_v11) : (⟨S64x4097, .f32⟩ : BufTy).Contents (Elt F)) slices_S64x4097_S64x4096_0_0) shapeCasts_S64x4096_S64x1x4096 := by
  unfold restOps sliceOps
  after_reads_simp
  rfl

/-- The stop noise is the noise's last column, repeated. -/
theorem read_v16 (U : Valuation τ sig (Elt F)) : (after restOps U (Proc.devRef .tc main_v16) : (⟨S64x1x128, .f32⟩ : BufTy).Contents (Elt F))
    = broadcastInDim S64x1x128 ![0, 1, 2] bcast_S64x1x1_S64x1x128_0_1_2 (shapeCast S64x1x1
      (extractStridedSlice S64x1 ![0, 4096] (U (Proc.devRef .tc main_v11) : (⟨S64x4097, .f32⟩ : BufTy).Contents (Elt F)) slices_S64x4097_S64x1_0_4096) shapeCasts_S64x1_S64x1x1) := by
  unfold restOps sliceOps
  after_reads_simp
  rfl

/-- The stop weights are padded with zeros. -/
theorem read_v17 (U : Valuation τ sig (Elt F)) : (after restOps U (Proc.devRef .tc main_v17) : (⟨S1024x128, .f32⟩ : BufTy).Contents (Elt F))
    = pad S1024x128 ![0, 0] ![0, 127] ![0, 0] (U (Proc.devRef .tc main_arg3) : (⟨S1024x1, .f32⟩ : BufTy).Contents (Elt F)) (sitofp .f32 (constantI S_ 32 0#32)) pads_S1024x1_S1024x128_000_01270 h_S_ := by
  unfold restOps sliceOps
  after_reads_simp
  rfl

/-- The stop bias, reshaped. -/
theorem read_v18 (U : Valuation τ sig (Elt F)) : (after restOps U (Proc.devRef .tc main_v18) : (⟨S1x1, .f32⟩ : BufTy).Contents (Elt F))
    = shapeCast S1x1 (U (Proc.devRef .tc main_arg4) : (⟨S1, .f32⟩ : BufTy).Contents (Elt F)) shapeCasts_S1_S1x1 := by
  unfold restOps sliceOps
  after_reads_simp
  rfl

end Cert.KernelEntry

end
-- ==== Proof.KernelValue.lean ====
/- The entries of the kernel's arrays in terms of the five arguments and the noise, and the two results of every row. -/
module

public import proofs.«01_k».proof.Proof.Logits
public import proofs.«01_k».proof.Proof.KernelRow
public import proofs.«01_k».proof.Proof.KernelArrays
public import proofs.«01_k».proof.Proof.KernelEntry
public import Idealize.ShloMosaic.Lib.MatmulPlain
public import Idealize.ShloMosaic.Lib.IdealHost

@[expose] public section

set_option maxRecDepth 16384

noncomputable section

open Idealize.ShloMosaic hiding ix0 ix1 ix2 ix3 ix4 ix5
open Idealize.ShloMosaic.TcCoe Idealize.SL.Sem Idealize.ShloMosaic.StableHlo

namespace Cert.KernelValue

open Cert.KernelIdeal Cert.KernelIdeal.Gen Idealize.ShloMosaic.ValueIdx
open Cert.KernelBlock Cert.KernelArrays Cert.KernelEntry Cert.Gumbel

section entries
variable {F : FTy → Type} [FloatOps F]
variable (m : (ℓ : Loc nD τ sig) → Buf (Elt F) ℓ)

/-- The operations after the noise leave the stop weights. -/
theorem keep_arg3 (U : Valuation τ sig (Elt F)) : after restOps U (Proc.devRef .tc main_arg3) = U (Proc.devRef .tc main_arg3) := by
  unfold restOps sliceOps
  after_reads_simp

/-- The operations after the noise leave the stop bias. -/
theorem keep_arg4 (U : Valuation τ sig (Elt F)) : after restOps U (Proc.devRef .tc main_arg4) = U (Proc.devRef .tc main_arg4) := by
  unfold restOps sliceOps
  after_reads_simp

/-- The stop weights are still the argument's once the noise is drawn. -/
theorem drawn_arg3 (c : Dev nD) : drawn m c (Proc.devRef .tc main_arg3) = m (c.tc.loc main_arg3) :=
  (keep_arg3 (drawn m c)).symm.trans ((congrFun (entry m c) _).symm.trans (V_main_arg3 m c))

/-- The stop bias is still the argument's once the noise is drawn. -/
theorem drawn_arg4 (c : Dev nD) : drawn m c (Proc.devRef .tc main_arg4) = m (c.tc.loc main_arg4) :=
  (keep_arg4 (drawn m c)).symm.trans ((congrFun (entry m c) _).symm.trans (V_main_arg4 m c))

/-- The edge noise, entry by entry. -/
theorem v13_apply (c : Dev nD) (b : Fin 64) (j : Fin 4096) :
    (V m c main_v13 : Vec F S64x1x4096 .f32) (ix3 b (0 : Fin 1) j) = noise m c (ix2 b j.castSucc) := by
  have h := congrFun ((congrFun (entry m c) (Proc.devRef .tc main_v13)).trans (read_v13 (drawn m c))) (ix3 b (0 : Fin 1) j)
  refine h.trans ?_
  refine (shapeCast_apply _ _ _ (ix2 b j) ?_).trans ?_
  · simp [Shape.rowMajor_val_two, Shape.rowMajor_val_three]
  · refine extractStridedSlice_apply _ _ _ _ _ fun a => ?_
    match a with
    | ⟨0, _⟩ => simp [ix2]
    | ⟨1, _⟩ => simp [ix2]

/-- The stop noise, entry by entry. -/
theorem v16_apply (c : Dev nD) (b : Fin 64) (l : Fin 128) :
    (V m c main_v16 : Vec F S64x1x128 .f32) (ix3 b (0 : Fin 1) l) = noise m c (ix2 b (Fin.last 4096)) := by
  have h := congrFun ((congrFun (entry m c) (Proc.devRef .tc main_v16)).trans (read_v16 (drawn m c))) (ix3 b (0 : Fin 1) l)
  refine h.trans ?_
  refine (broadcastInDim_apply _ _ _ _ (ix3 b (0 : Fin 1) (0 : Fin 1)) ?_).trans ?_
  · intro a
    match a with
    | ⟨0, _⟩ => rfl
    | ⟨1, _⟩ => rfl
    | ⟨2, _⟩ => rfl
  refine (shapeCast_apply _ _ _ (ix2 b (0 : Fin 1)) ?_).trans ?_
  · simp [Shape.rowMajor_val_two, Shape.rowMajor_val_three]
  · refine extractStridedSlice_apply _ _ _ _ _ fun a => ?_
    match a with
    | ⟨0, _⟩ => simp [ix2]
    | ⟨1, _⟩ => simp [ix2]

/-- The padded stop weights' first column is the argument's. -/
theorem v17_apply (c : Dev nD) (d : Fin 1024) :
    (V m c main_v17 : Vec F S1024x128 .f32) (ix2 d (0 : Fin 128)) = (m (c.tc.loc main_arg3) : Vec F S1024x1 .f32) (ix2 d (0 : Fin 1)) := by
  have h := congrFun ((congrFun (entry m c) (Proc.devRef .tc main_v17)).trans (read_v17 (drawn m c))) (ix2 d (0 : Fin 128))
  refine h.trans ?_
  rw [drawn_arg3]
  refine (pad_apply ..).trans ((dif_pos ?_).trans (congrArg (m (c.tc.loc main_arg3) : Vec F S1024x1 .f32) ?_))
  · intro a
    match a with
    | ⟨0, _⟩ => simp [ix2, Nat.mod_one]
    | ⟨1, _⟩ => simp [ix2]
  · funext a
    match a with
    | ⟨0, _⟩ => apply Fin.ext; simp [ix2, Shape.Idx.norm]
    | ⟨1, _⟩ => apply Fin.ext; simp [ix2, Shape.Idx.norm]

/-- The reshaped stop bias. -/
theorem v18_apply (c : Dev nD) :
    (V m c main_v18 : Vec F S1x1 .f32) (ix2 (0 : Fin 1) (0 : Fin 1)) = (m (c.tc.loc main_arg4) : Vec F S1 .f32) (ix1 (0 : Fin 1)) := by
  have h := congrFun ((congrFun (entry m c) (Proc.devRef .tc main_v18)).trans (read_v18 (drawn m c))) (ix2 (0 : Fin 1) (0 : Fin 1))
  refine h.trans ?_
  rw [drawn_arg4]
  refine shapeCast_apply _ _ _ _ ?_
  simp [Shape.rowMajor_val_one, Shape.rowMajor_val_two]

end entries

section products

/-- The product of a matrix and the states, entry by entry. -/
theorem product (x : Vec Ideal S64x1024 .f32) (w : Vec Ideal S1024x128 .f32) (i : Fin 64) (k : Fin 128) :
    (matmul (φ₁ := .f32) (φ₂ := .f32) dot_S64x1024_S1024x128_S64x128_1_0_0_1_n_n none x w (constant S64x128 .f32 0x00000000#32) : FVec Ideal S64x128 .f32) (ix2 i k)
      = ∑ d : Fin 1024, x (ix2 i d) * w (ix2 d k) := by
  refine (Ideal.matmul_plain_apply none x w (constant S64x128 .f32 0x00000000#32) i k).trans ?_
  rw [ValueIdx.constant_apply, Ideal.ofBits_zero_f32, zero_add]

/-- The projected states, entry by entry. -/
theorem pay3_apply (x : Vec Ideal S64x1024 .f32) (w : Vec Ideal S1024x128 .f32) (i : Fin 64) (k : Fin 128) :
    k0_pay3 x w (ix2 i k) = ∑ d : Fin 1024, x (ix2 i d) * w (ix2 d k) :=
  (shapeCast_apply _ shapeCasts_S64x128_S64x128 (ix2 i k) (ix2 i k) rfl).trans (product x w i k)

/-- The stop logits, entry by entry. -/
theorem pay4_apply (x : Vec Ideal S64x1024 .f32) (w : Vec Ideal S1024x128 .f32) (z : EReal) (i : Fin 64) (k : Fin 128) :
    k0_pay4 x w z (ix2 i k) = ∑ d : Fin 1024, x (ix2 i d) * w (ix2 d k) + z := by
  unfold k0_pay4
  refine (shapeCast_apply _ shapeCasts_S64x128_S64x128 (ix2 i k) (ix2 i k) rfl).trans ?_
  refine (addf_apply ..).trans ?_
  refine congrArg (· + z) ((product x _ i k).trans (Finset.sum_congr rfl fun d _ => ?_))
  exact congrArg (x (ix2 i d) * ·) (shapeCast_apply _ shapeCasts_S1024x128_S1024x128 (ix2 d k) (ix2 d k) rfl)

/-- The edge logits of a row, entry by entry. -/
theorem pay5_apply (p : Vec Ideal S1x128 .f32) (e : Vec Ideal S1x4096x128 .f32) (j : Fin 4096) :
    k0_pay5 p e (ix2 (0 : Fin 1) j) = ∑ k : Fin 128, p (ix2 (0 : Fin 1) k) * e (ix3 (0 : Fin 1) j k) := by
  refine (mulf_apply ..).trans ?_
  refine (congrArg (_ * ·) ((broadcast_apply ..).trans Ideal.ofBits_one_f32)).trans ((mul_one _).trans ?_)
  refine (Ideal.matmul_transposedRhs_apply none p _ (constant S1x4096 .f32 0x00000000#32) (0 : Fin 1) j).trans ?_
  rw [ValueIdx.constant_apply, Ideal.ofBits_zero_f32, zero_add]
  refine Finset.sum_congr rfl fun k _ => congrArg (p (ix2 (0 : Fin 1) k) * ·) (shapeCast_apply _ _ _ (ix3 (0 : Fin 1) j k) ?_)
  simp [Shape.rowMajor_val_two, Shape.rowMajor_val_three]

/-- The stop logit of a row. -/
theorem pay6_apply (q : Vec Ideal S1x1 .f32) : k0_pay6 q (ix2 (0 : Fin 1) (0 : Fin 1)) = q (ix2 (0 : Fin 1) (0 : Fin 1)) := by
  refine (mulf_apply ..).trans ?_
  exact (congrArg (_ * ·) ((broadcast_apply ..).trans Ideal.ofBits_one_f32)).trans (mul_one _)

end products

section results
variable (m : (ℓ : Loc nD τ sig) → Buf (Elt Ideal) ℓ)

/-- The first argument's window block read at a row: a row of the kept array. -/
theorem projRow_apply (b : Fin 64) (X : Vec Ideal S64x128 .f32) (k : Fin 128) :
    projRow (grid0.coords (pt b)) X (ix2 (0 : Fin 1) k) = X (ix2 b k) := by
  refine congrArg X (funext fun a => ?_)
  have hc : (grid0.coords (pt b) 0).val = b.val := coord (pt b)
  match a with
  | ⟨0, _⟩ => apply Fin.ext; simp [ix2, k0_off1_eq, Rect.emb, hc]
  | ⟨1, _⟩ => apply Fin.ext; simp [ix2, k0_off1_eq, Rect.emb]

/-- The kept stop logit read at a row. -/
theorem stopAt_apply (b : Fin 64) (X : Vec Ideal S64x128 .f32) :
    stopAt (grid0.coords (pt b)) X (ix2 (0 : Fin 1) (0 : Fin 1)) = X (ix2 b (0 : Fin 128)) := by
  refine congrArg X (funext fun a => ?_)
  have hc : (grid0.coords (pt b) 0).val = b.val := coord (pt b)
  match a with
  | ⟨0, _⟩ => apply Fin.ext; simp [ix2, k0_off2_eq, Rect.emb, hc]
  | ⟨1, _⟩ => apply Fin.ext; simp [ix2, k0_off2_eq, Rect.emb]

/-- The stop noise read at a row. -/
theorem stopNoise_apply (X : Vec Ideal S1x1x128 .f32) : stopNoise X (ix3 (0 : Fin 1) (0 : Fin 1) (0 : Fin 1)) = X (ix3 (0 : Fin 1) (0 : Fin 1) (0 : Fin 128)) := by
  refine congrArg X (funext fun a => ?_)
  match a with
  | ⟨0, _⟩ => rfl
  | ⟨1, _⟩ => rfl
  | ⟨2, _⟩ => rfl

variable {m}
variable {R : Logits.Inputs} {c : Dev nD}

/-- The five arguments hold real numbers. -/
abbrev Holds (m : (ℓ : Loc nD τ sig) → Buf (Elt Ideal) ℓ) (c : Dev nD) (R : Logits.Inputs) : Prop :=
  R.Holds (m (c.tc.loc main_arg0)) (m (c.tc.loc main_arg1)) (m (c.tc.loc main_arg2)) (m (c.tc.loc main_arg3)) (m (c.tc.loc main_arg4))

/-- The kept projected states. -/
theorem proj_apply (h : Holds m c R) (b : Fin 64) (k : Fin 128) : proj m c (ix2 b k) = ((R.proj b k : ℝ) : EReal) := by
  refine (pay3_apply _ _ b k).trans (Eq.trans (Finset.sum_congr rfl fun d _ => ?_) (Logits.coe_dot (R.x b) fun d => R.w d k))
  rw [blk0, blk1, V_main_arg0, V_main_arg2]
  exact congrArg₂ _ (h.x b d) (h.w d k)

/-- The kept stop logits, in their first column. -/
theorem stop_apply (h : Holds m c R) (b : Fin 64) : stop m c (ix2 b (0 : Fin 128)) = ((R.halt b : ℝ) : EReal) := by
  refine (pay4_apply _ _ _ b (0 : Fin 128)).trans ?_
  refine Eq.trans ?_ (EReal.coe_add _ _).symm
  refine congrArg₂ (fun a b : EReal => a + b) (Eq.trans (Finset.sum_congr rfl fun d _ => ?_) (Logits.coe_dot (R.x b) R.s)) ?_
  · rw [blk0, blk2, V_main_arg0, v17_apply]
    exact congrArg₂ _ (h.x b d) (h.s d)
  · rw [bias_eq, blk3, v18_apply]
    exact h.b

/-- The noise of a row. -/
def rowNoise (m : (ℓ : Loc nD τ sig) → Buf (Elt Ideal) ℓ) (c : Dev nD) (b : Fin 64) (j : Fin 4097) : EReal := noise m c (ix2 b j)

/-- In every row the kernel's chosen number is the place where logit plus noise is first greatest, and its
    log-probability is that place's logit less the logarithm of the sum of the exponentials of all. -/
theorem result (h : Holds m c R) (b : Fin 64) : ∃ (k : Fin 4097) (M : ℝ),
    FirstMax.IsFirstMax (fun j => ((R.logit b j : ℝ) : EReal) + rowNoise m c b j) k ∧ KernelRow.IsMax (R.logit b) M ∧
    logp m c (ix3 b (0 : Fin 1) (0 : Fin 128)) = ((R.logit b k - (M + KernelRow.logSum (R.logit b) M) : ℝ) : EReal) ∧
    action m c (ix3 b (0 : Fin 1) (0 : Fin 128)) = BitVec.ofNat 32 k.val := by
  have hx : ∀ j : Fin 4096, k0_pay5 (projRow (grid0.coords (pt b)) (proj m c)) (iblk m c 4 (pt b)) (ix2 (0 : Fin 1) j) = ((R.logit b j.castSucc : ℝ) : EReal) := by
    intro j
    rw [Logits.Inputs.logit_castSucc]
    refine (pay5_apply _ _ j).trans (Eq.trans (Finset.sum_congr rfl fun k _ => ?_) (Logits.coe_dot (R.proj b) (R.e b j)))
    rw [projRow_apply, proj_apply h, blk4, V_main_arg1]
    exact congrArg _ (h.e b j k)
  have hs : k0_pay6 (stopAt (grid0.coords (pt b)) (stop m c)) (ix2 (0 : Fin 1) (0 : Fin 1)) = ((R.logit b (Fin.last 4096) : ℝ) : EReal) := by
    rw [Logits.Inputs.logit_last, pay6_apply, stopAt_apply, stop_apply h]
  have hg : ∀ j : Fin 4096, (iblk m c 5 (pt b) : Vec Ideal S1x1x4096 .f32) (ix3 (0 : Fin 1) (0 : Fin 1) j) = rowNoise m c b j.castSucc :=
    fun j => (blk5 m c b j).trans (v13_apply m c b j)
  have hgs : stopNoise (iblk m c 6 (pt b)) (ix3 (0 : Fin 1) (0 : Fin 1) (0 : Fin 1)) = rowNoise m c b (Fin.last 4096) :=
    (stopNoise_apply _).trans ((blk6 m c b 0).trans (v16_apply m c b 0))
  obtain ⟨k, M, h1, h2, h3, h4⟩ := KernelRow.row _ _ _ _ _ _ _ hx hs hg hgs
  have e7 : logp m c (ix3 b (0 : Fin 1) (0 : Fin 128)) = logpBlock (grid0.coords (pt b)) (proj m c) (stop m c) (iblk m c 4 (pt b)) (iblk m c 5 (pt b)) (iblk m c 6 (pt b))
    (ix3 (0 : Fin 1) (0 : Fin 1) (0 : Fin 128)) := rfl
  have e8 : action m c (ix3 b (0 : Fin 1) (0 : Fin 128)) = actionBlock (grid0.coords (pt b)) (proj m c) (stop m c) (iblk m c 4 (pt b)) (iblk m c 5 (pt b)) (iblk m c 6 (pt b))
    (ix3 (0 : Fin 1) (0 : Fin 1) (0 : Fin 128)) := rfl
  refine ⟨k, M, h1, h2, e7.trans ?_, e8.trans ?_⟩
  · exact h3 _
  · exact h4 _

end results

end Cert.KernelValue

end
-- ==== Proof.KernelRun.lean ====
/- The kernel's run: its two results, row by row, and its arguments unchanged. -/
module

public import proofs.«01_k».proof.Proof.KernelArrays
public import proofs.«01_k».proof.Proof.Gen.KernelIdeal.Frame
public import Idealize.ShloMosaic.Lib.Pipeline.Value
public import Idealize.ShloMosaic.Lib.StableHlo.RunRead

@[expose] public section

set_option maxRecDepth 16384

noncomputable section

open Idealize.ShloMosaic hiding ix0 ix1 ix2 ix3 ix4 ix5
open Idealize.ShloMosaic.TcCoe Idealize.SL.Sem Idealize.ShloMosaic.StableHlo

namespace Cert.KernelRun

open Cert.KernelIdeal Cert.KernelIdeal.Gen Idealize.ShloMosaic.ValueIdx Cert.KernelArrays

variable {F : FTy → Type} [FloatOps F]

/-- The first result is a column of the first output array. -/
theorem tail_v21 (U : Valuation τ sig (Elt F)) (b : Fin 64) :
    (after [hostOps1].flatten U (Proc.devRef .tc main_v21) : Vec F S64 .f32) (ix1 b)
      = (U (Proc.devRef .tc main_v19_0) : Vec F S64x1x128 .f32) (ix3 b (0 : Fin 1) (0 : Fin 128)) := by
  have h : (after [hostOps1].flatten U (Proc.devRef .tc main_v21) : Vec F S64 .f32)
      = shapeCast S64 (extractStridedSlice S64x1x1 ![0, 0, 0] (U (Proc.devRef .tc main_v19_0) : Vec F S64x1x128 .f32) slices_S64x1x128_S64x1x1_0_0_0) shapeCasts_S64x1x1_S64 := by
    unfold hostOps1
    after_reads_simp
    rfl
  refine (congrFun h (ix1 b)).trans ((shapeCast_apply _ _ _ (ix3 b (0 : Fin 1) (0 : Fin 1)) ?_).trans ?_)
  · simp [Shape.rowMajor_val_one, Shape.rowMajor_val_three]
  · refine extractStridedSlice_apply _ _ _ _ _ fun a => ?_
    match a with
    | ⟨0, _⟩ => simp [ix3]
    | ⟨1, _⟩ => simp [ix3]
    | ⟨2, _⟩ => simp [ix3]

/-- The second result is a column of the second output array. -/
theorem tail_v23 (U : Valuation τ sig (Elt F)) (b : Fin 64) :
    (after [hostOps1].flatten U (Proc.devRef .tc main_v23) : Vec F S64 .i32) (ix1 b)
      = (U (Proc.devRef .tc main_v19_1) : Vec F S64x1x128 .i32) (ix3 b (0 : Fin 1) (0 : Fin 128)) := by
  have h : (after [hostOps1].flatten U (Proc.devRef .tc main_v23) : Vec F S64 .i32)
      = shapeCast S64 (extractStridedSlice S64x1x1 ![0, 0, 0] (U (Proc.devRef .tc main_v19_1) : Vec F S64x1x128 .i32) slices_S64x1x128_S64x1x1_0_0_0) shapeCasts_S64x1x1_S64 := by
    unfold hostOps1
    after_reads_simp
    rfl
  refine (congrFun h (ix1 b)).trans ((shapeCast_apply _ _ _ (ix3 b (0 : Fin 1) (0 : Fin 1)) ?_).trans ?_)
  · simp [Shape.rowMajor_val_one, Shape.rowMajor_val_three]
  · refine extractStridedSlice_apply _ _ _ _ _ fun a => ?_
    match a with
    | ⟨0, _⟩ => simp [ix3]
    | ⟨1, _⟩ => simp [ix3]
    | ⟨2, _⟩ => simp [ix3]

/-- Distinct windows have distinct arrays. -/
theorem arrays_distinct : Function.Injective (Pipeline.arrRef cfg0.spec) := by decide

variable (m : (ℓ : Loc nD τ sig) → Buf (Elt F) ℓ) (ρ : Dev nD → PrngReg)

/-- The contents after the grid. -/
def left (c : Dev nD) : Valuation τ sig (Elt F) :=
  Pipeline.withArrays (cfgs 0).spec c (V0 m c) fun w => (dats m 0 c).arrAt w (cfgs 0).N

/-- The first output array after the grid. -/
theorem left_0 (c : Dev nD) : left m c (Proc.devRef .tc main_v19_0) = logp m c :=
  (Pipeline.withArrays_arr _ arrays_distinct c (V0 m c) _ 7).trans (final7 m c)

/-- The second output array after the grid. -/
theorem left_1 (c : Dev nD) : left m c (Proc.devRef .tc main_v19_1) = action m c :=
  (Pipeline.withArrays_arr _ arrays_distinct c (V0 m c) _ 8).trans (final8 m c)

/-- The log-probabilities, as the run leaves them. -/
def logps (c : Dev nD) : Buf (Elt F) ((c.tc : Thread nD τ).loc main_v21) := Pipeline.afterTail₀ cfgs (dats m) 0 (V0 m) [hostOps1] c main_v21

/-- The chosen numbers, as the run leaves them. -/
def actions (c : Dev nD) : Buf (Elt F) ((c.tc : Thread nD τ).loc main_v23) := Pipeline.afterTail₀ cfgs (dats m) 0 (V0 m) [hostOps1] c main_v23

theorem logps_apply (c : Dev nD) (b : Fin 64) : (logps m c : Vec F S64 .f32) (ix1 b) = logp m c (ix3 b (0 : Fin 1) (0 : Fin 128)) :=
  (tail_v21 (left m c) b).trans (congrFun (left_0 m c) _)

theorem actions_apply (c : Dev nD) (b : Fin 64) : (actions m c : Vec F S64 .i32) (ix1 b) = action m c (ix3 b (0 : Fin 1) (0 : Fin 128)) :=
  (tail_v23 (left m c) b).trans (congrFun (left_1 m c) _)

/-- Every run of the kernel ends with these results and its arguments unchanged. -/
theorem run : θ_run defs (onTc (τ := τ) (main (F := F))) ⟨m, fun _ => 0, ρ⟩ fun r => ∀ c : Dev nD,
      r.2.mem ((c.tc : Thread nD τ).loc main_v21) = logps m c
      ∧ r.2.mem ((c.tc : Thread nD τ).loc main_v23) = actions m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (unchanged m ρ) (run_main m ρ)) fun r h c =>
    ⟨(h.2 c).2 main_v21 (Pipeline.mem_restRefs_of main_v21 rfl (by decide)),
      (h.2 c).2 main_v23 (Pipeline.mem_restRefs_of main_v23 rfl (by decide)), h.1 c⟩

end Cert.KernelRun

end
-- ==== Proof.RefRead.lean ====
/- What each stretch of the reference's operations leaves, as a function of the arrays it reads. -/
module

public import proofs.«01_k».proof.Proof.RefOps
public import proofs.«01_k».proof.Proof.Gumbel
public import proofs.«01_k».proof.Proof.RefRun
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.RefRead

open Cert.ReferenceIdeal Cert.ReferenceIdeal.Gen Cert.RefRun Cert.Gumbel

variable {F : FTy → Type} [FloatOps F]

/-- The logits: the edges' and the one of stopping, side by side, over the temperature. -/
def logits (x : Vec F S64x1024 .f32) (e : Vec F S64x4096x128 .f32) (w : Vec F S1024x128 .f32) (s : Vec F S1024x1 .f32) (z : Vec F S1 .f32) :
    Vec F S64x4097 .f32 :=
  Host.divf (concatenate S64x4097 1
    [⟨S64x4096, Host.dotGeneral (φ₁ := .f32) (φ₂ := .f32) dot_S64x4096x128_S64x128_S64x4096_2_1_1_n_0_0 none e
        (Host.dotGeneral (φ₁ := .f32) (φ₂ := .f32) dot_S64x1024_S1024x128_S64x128_1_0_0_1_n_n none x w)⟩,
      ⟨S64x1, addf (Host.dotGeneral (φ₁ := .f32) (φ₂ := .f32) dot_S64x1024_S1024x1_S64x1_1_0_0_1_n_n none x s)
        (broadcastInDim S64x1 ![0, 1] bcast_S1x1_S64x1_0_1 (broadcastInDim S1x1 ![1] bcast_S1_S1x1_1 z))⟩]
    concatenates_S64x4096_S64x1_S64x4097_d1) (broadcastInDim S64x4097 ![] bcast_S_S64x4097 (constant S_ .f32 0x3F800000#32))

/-- The logits less the greatest of their row. -/
def shifted (l : Vec F S64x4097 .f32) : Vec F S64x4097 .f32 :=
  subf l (broadcastInDim S64x4097 ![0, 1] bcast_S64x1_S64x4097_0_1 (broadcastInDim S64x1 ![0] bcast_S64_S64x1_0
    (maximumf (broadcastInDim S64 ![] bcast_S_S64 (constant S_ .f32 0xFF800000#32))
      (Host.reduce FloatOps.maximumf l (constant S_ .f32 0xFF800000#32) reducesTo_S64x4097_S64_d1 h_S_))))

/-- The log-softmax of logits already shifted. -/
def normalized (l : Vec F S64x4097 .f32) : Vec F S64x4097 .f32 :=
  subf l (broadcastInDim S64x4097 ![0, 1] bcast_S64x1_S64x4097_0_1 (Host.log (broadcastInDim S64x1 ![0] bcast_S64_S64x1_0
    (Host.reduceAdd (Host.exp l) (constant S_ .f32 0x00000000#32) reducesTo_S64x4097_S64_d1 h_S_))))

/-- The number of the greatest entry of every row. -/
def choice (p : Vec F S64x4097 .f32) : Vec F S64 .i32 := fun j =>
  (Host.argReduce reducer_argmax_f32_i32 p (iotaInDim S64x4097 32 1) (constant S_ .f32 0xFF800000#32) (constantI S_ 32 0#32)
    reducesTo_S64x4097_S64_d1 h_S_ j).2

/-- A row number counted from the end if negative. -/
def place (i : Vec F S64x1 .i32) : Vec F S64x1x1 .i32 :=
  shapeCast S64x1x1 (select (cmpi .slt i (broadcastInDim S64x1 ![] bcast_S_S64x1 (constantI S_ 32 0#32)))
    (addi i (broadcastInDim S64x1 ![] bcast_S_S64x1 (constantI S_ 32 4097#32))) i) shapeCasts_S64x1_S64x1x1

/-- Whether a place is inside the row. -/
def inside (i : Vec F S64x1x1 .i32) : Vec F S64x1 .i1 :=
  Host.reduce IntOp.andi (andi (cmpi .sge i (broadcastInDim S64x1x1 ![] bcast_S_S64x1x1 (constantI S_ 32 0#32)))
    (cmpi .sle i (broadcastInDim S64x1x1 ![0, 1, 2] bcast_S1x1x1_S64x1x1_0_1_2
      (broadcastInDim S1x1x1 ![2] bcast_S1_S1x1x1_2 (constantI S1 32 4096#32))))) (constantI S_ 1 1#1) reducesTo_S64x1x1_S64x1_d2 h_S_

/-- The entry at a place of every row. -/
def taken (l : Vec F S64x4097 .f32) (i : Vec F S64x1x1 .i32) : Vec F S64x1 .f32 :=
  select (inside (F := F) i) (Host.gather gather_S64x4097_S64x1x1_S64x1_n_1_0_0_1_2_11 l i)
    (broadcastInDim S64x1 ![] bcast_S_S64x1 (constant S_ .f32 0x7FC00000#32))

theorem read_logits (V : Valuation τ sig (Elt F)) : (after ops0 V (Proc.devRef .tc main_v8) : Vec F S64x4097 .f32)
    = logits (V (Proc.devRef .tc main_arg0)) (V (Proc.devRef .tc main_arg1)) (V (Proc.devRef .tc main_arg2)) (V (Proc.devRef .tc main_arg3)) (V (Proc.devRef .tc main_arg4)) := by
  after_reads_simp
  rfl

theorem read_lp (V : Valuation τ sig (Elt F)) : (after ops1 V (Proc.devRef .tc main_v9) : Vec F S64x4097 .f32)
    = normalized (shifted (V (Proc.devRef .tc main_v8))) := by
  after_reads_simp
  simp only [TRef.ofBuf_toBuf]
  rfl

theorem read_sum (V : Valuation τ sig (Elt F)) : (after refSumOps V (Proc.devRef .tc main_v22) : Vec F S64x4097 .f32)
    = addf (V (Proc.devRef .tc main_v9) : Vec F S64x4097 .f32) (V (Proc.devRef .tc main_v21) : Vec F S64x4097 .f32) := by
  unfold refSumOps
  after_reads_simp
  rfl

theorem read_choice (V : Valuation τ sig (Elt F)) : (after ops5 V (Proc.devRef .tc main_v23) : Vec F S64 .i32)
    = choice (V (Proc.devRef .tc main_v22)) := by
  after_reads_simp
  simp only [TRef.ofBuf_toBuf]
  rfl

theorem read_taken (V : Valuation τ sig (Elt F)) : (after (ops6 ++ (ops7 ++ ops8)) V (Proc.devRef .tc main_v26) : Vec F S64 .f32)
    = shapeCast S64 (taken (V (Proc.devRef .tc main_v9)) (place (F := F) (broadcastInDim S64x1 ![0] bcast_S64_S64x1_0 (V (Proc.devRef .tc main_v23) : Vec F S64 .i32)))) shapeCasts_S64x1_S64 := by
  after_reads_simp
  simp only [TRef.ofBuf_toBuf]
  rfl

theorem keep_choice (V : Valuation τ sig (Elt F)) : after (ops6 ++ (ops7 ++ ops8)) V (Proc.devRef .tc main_v23) = V (Proc.devRef .tc main_v23) := by
  after_reads_simp

theorem keep_lp_noise (V : Valuation τ sig (Elt F)) : after refLogOps (after ops3 (after ops2 V)) (Proc.devRef .tc main_v9) = V (Proc.devRef .tc main_v9) := by
  unfold refLogOps
  after_reads_simp

theorem keep_lp_choice (V : Valuation τ sig (Elt F)) : after ops5 (after refSumOps V) (Proc.devRef .tc main_v9) = V (Proc.devRef .tc main_v9) := by
  unfold refSumOps
  after_reads_simp

end Cert.RefRead

end
-- ==== Proof.RefLogits.lean ====
/- The reference's logits and their log-softmax, entry by entry, on arguments that hold real numbers. -/
module

public import proofs.«01_k».proof.Proof.Logits
public import proofs.«01_k».proof.Proof.KernelRow
public import proofs.«01_k».proof.Proof.RefRead
public import Idealize.ShloMosaic.Lib.StackMember
public import Idealize.ShloMosaic.Lib.IdealHost
public import Idealize.ShloMosaic.Lib.Pipeline.Value

@[expose] public section

set_option maxRecDepth 16384

noncomputable section

open Idealize.ShloMosaic

namespace Cert.RefLogits

open Cert.ReferenceIdeal Cert.ReferenceIdeal.Gen Idealize.ShloMosaic.ValueIdx
open Cert.RefRead

/-- The product of a batch of matrices and a batch of vectors, entry by entry. -/
theorem batched (e : Vec Ideal S64x4096x128 .f32) (p : Vec Ideal S64x128 .f32) (b : Fin 64) (j : Fin 4096) :
    (Host.dotGeneral (φ₁ := .f32) (φ₂ := .f32) dot_S64x4096x128_S64x128_S64x4096_2_1_1_n_0_0 none e p : FVec Ideal S64x4096 .f32) (ix2 b j)
      = ∑ k : Fin 128, e (ix3 b j k) * p (ix2 b k) := by
  show FloatOps.dotGeneral (F := Ideal) (φ₁ := .f32) (φ₂ := .f32) _ none _ e p (ix2 b j) = _
  rw [Ideal.dotGeneral_apply, ← Equiv.sum_comp (contrEquiv1 dot_S64x4096x128_S64x128_S64x4096_2_1_1_n_0_0 128 rfl rfl).symm]
  refine Finset.sum_congr rfl fun k _ => ?_
  have hk := contrEquiv1_symm_val dot_S64x4096x128_S64x128_S64x4096_2_1_1_n_0_0 128 rfl rfl k
  have el : dot_S64x4096x128_S64x128_S64x4096_2_1_1_n_0_0.lhsIdx (ix2 b j) ((contrEquiv1 _ 128 rfl rfl).symm k) = ix3 b j k := by
    funext a; apply Fin.ext
    match a with
    | ⟨0, _⟩ => rfl
    | ⟨1, _⟩ => rfl
    | ⟨2, _⟩ => exact hk
  have er : dot_S64x4096x128_S64x128_S64x4096_2_1_1_n_0_0.rhsIdx (ix2 b j) ((contrEquiv1 _ 128 rfl rfl).symm k) = ix2 b k := by
    funext a; apply Fin.ext
    match a with
    | ⟨0, _⟩ => rfl
    | ⟨1, _⟩ => exact hk
  rw [el, er]

/-- Division by one. -/
theorem div_one (x : EReal) : Ideal.div x 1 = x := by
  have h := Ideal.div_coe (y := 1) one_ne_zero x
  rw [EReal.coe_one] at h
  rw [h]
  simp

/-- Two arrays side by side, read in the first. -/
theorem beside_left {α : Type} (x : S64x4096.Idx → α) (y : S64x1.Idx → α) (b : Fin 64) (j : Fin 4096) :
    concatenate S64x4097 1 [⟨S64x4096, x⟩, ⟨S64x1, y⟩] concatenates_S64x4096_S64x1_S64x4097_d1 (ix2 b j.castSucc) = x (ix2 b j) :=
  concatenate_pair_apply_left (s₁ := S64x4096) (s₂ := S64x1) (t := S64x4097) 1 x y concatenates_S64x4096_S64x1_S64x4097_d1 (ix2 b j.castSucc) rfl (ix2 b j) fun a => by
    match a with
    | ⟨0, _⟩ => rfl
    | ⟨1, _⟩ => rfl

/-- Two arrays side by side, read in the second. -/
theorem beside_right {α : Type} (x : S64x4096.Idx → α) (y : S64x1.Idx → α) (b : Fin 64) :
    concatenate S64x4097 1 [⟨S64x4096, x⟩, ⟨S64x1, y⟩] concatenates_S64x4096_S64x1_S64x4097_d1 (ix2 b (Fin.last 4096)) = y (ix2 b (0 : Fin 1)) :=
  concatenate_pair_apply_right (s₁ := S64x4096) (s₂ := S64x1) (t := S64x4097) 1 x y concatenates_S64x4096_S64x1_S64x4097_d1 (ix2 b (Fin.last 4096)) rfl rfl (ix2 b (0 : Fin 1))
    (fun a ha => by
      match a with
      | ⟨0, _⟩ => rfl
      | ⟨1, _⟩ => exact absurd rfl ha)
    (by simp [ix2])

variable {R : Logits.Inputs} {a0 : Vec Ideal S64x1024 .f32} {a1 : Vec Ideal S64x4096x128 .f32} {a2 : Vec Ideal S1024x128 .f32}
  {a3 : Vec Ideal S1024x1 .f32} {a4 : Vec Ideal S1 .f32}

/-- The logits, entry by entry. -/
theorem logits_apply (h : R.Holds a0 a1 a2 a3 a4) (b : Fin 64) (j : Fin 4097) :
    logits a0 a1 a2 a3 a4 (ix2 b j) = ((R.logit b j : ℝ) : EReal) := by
  refine (hostDivf_apply ..).trans ((congrArg (Ideal.div _) ((broadcastInDim_scalar_apply _ _ _).trans Ideal.ofBits_one_f32)).trans ((div_one _).trans ?_))
  refine Fin.lastCases ?_ (fun j => ?_) j
  · rw [Logits.Inputs.logit_last]
    refine (beside_right _ _ b).trans ?_
    · refine (addf_apply ..).trans ((congrArg₂ (fun a b : EReal => a + b) ?_ ?_).trans (EReal.coe_add _ _).symm)
      · refine (Idealize.ShloMosaic.StackMember.dotGeneral_plain_apply none a0 a3 b (0 : Fin 1)).trans (Eq.trans (Finset.sum_congr rfl fun d _ => ?_) (Logits.coe_dot (R.x b) R.s))
        exact congrArg₂ _ (h.x b d) (h.s d)
      · refine (broadcastInDim_apply _ _ _ _ (ix2 (0 : Fin 1) (0 : Fin 1)) ?_).trans ((broadcastInDim_apply _ _ _ _ (ix1 (0 : Fin 1)) ?_).trans h.b)
        · intro a
          match a with
          | ⟨0, _⟩ => rfl
          | ⟨1, _⟩ => rfl
        · intro a
          match a with
          | ⟨0, _⟩ => rfl
  · rw [Logits.Inputs.logit_castSucc]
    refine (beside_left _ _ b j).trans ?_
    · refine (batched a1 _ b j).trans (Eq.trans (Finset.sum_congr rfl fun k _ => ?_) (Logits.coe_dot (R.proj b) (R.e b j)))
      refine (mul_comm _ _).trans (congrArg₂ _ ?_ (h.e b j k))
      refine (Idealize.ShloMosaic.StackMember.dotGeneral_plain_apply none a0 a2 b k).trans (Eq.trans (Finset.sum_congr rfl fun d _ => ?_) (Logits.coe_dot (R.x b) fun d => R.w d k))
      exact congrArg₂ _ (h.x b d) (h.w d k)

/-- An index of a row with a column put back. -/
theorem lift_row (hr : S64x4097.Reduces [1] S64) (b : Fin 64) (k : Fin 4097) : hr.lift (ix1 b) k = ix2 b k := by
  funext c; apply Fin.ext
  match c with
  | ⟨0, _⟩ => rfl
  | ⟨1, _⟩ => rfl

/-- A column repeated along the rows, read at an entry. -/
theorem column {α : Type} (v : S64x1.Idx → α) (b : Fin 64) (j : Fin 4097) :
    broadcastInDim S64x4097 ![0, 1] bcast_S64x1_S64x4097_0_1 v (ix2 b j) = v (ix2 b (0 : Fin 1)) :=
  broadcastInDim_apply _ _ _ _ _ fun a => by
    match a with
    | ⟨0, _⟩ => rfl
    | ⟨1, _⟩ => rfl

/-- A vector as a column, read at an entry. -/
theorem asColumn {α : Type} (v : S64.Idx → α) (b : Fin 64) :
    broadcastInDim S64x1 ![0] bcast_S64_S64x1_0 v (ix2 b (0 : Fin 1)) = v (ix1 b) :=
  broadcastInDim_apply _ _ _ _ _ fun a => by
    match a with
    | ⟨0, _⟩ => rfl

/-- The logits less the greatest of their row, entry by entry. -/
theorem shifted_apply (l : Vec Ideal S64x4097 .f32) (L : Fin 64 → Fin 4097 → ℝ) (hl : ∀ b j, l (ix2 b j) = ((L b j : ℝ) : EReal)) (b : Fin 64) :
    ∃ M : ℝ, KernelRow.IsMax (L b) M ∧ ∀ j, shifted l (ix2 b j) = ((L b j - M : ℝ) : EReal) := by
  have hr : S64x4097.Reduces [1] S64 := by decide
  have e : (Host.reduce FloatOps.maximumf l (constant S_ .f32 0xFF800000#32) reducesTo_S64x4097_S64_d1 h_S_ : FVec Ideal S64 .f32) (ix1 b)
      = (Finset.univ : Finset (Fin 4097)).fold max (⊥ : EReal) fun k => ((L b k : ℝ) : EReal) := by
    refine (Host.reduce_eq_fold_single (FloatOps.maximumf (F := Ideal) (φ := .f32)) l _ reducesTo_S64x4097_S64_d1 hr h_S_ (ix1 b)).trans ?_
    have e1 : (l ∘ hr.lift (ix1 b)) = fun k : Fin 4097 => ((L b k : ℝ) : EReal) := funext fun k => (congrArg l (lift_row hr b k)).trans (hl b k)
    have e2 : (constant S_ .f32 0xFF800000#32 : FVec Ideal S_ .f32) (Shape.Idx.first h_S_) = (⊥ : EReal) := Reductions.ofBits_bot
    exact congrArg₂ (fun (z : EReal) f => Finset.fold max z f (Finset.univ : Finset (Fin 4097))) e2 e1
  obtain ⟨h1, j0, -, h2⟩ := FirstMax.fold_max (Finset.univ : Finset (Fin 4097)) ⟨0, Finset.mem_univ _⟩ fun k => ((L b k : ℝ) : EReal)
  refine ⟨L b j0, ⟨fun j => ?_, j0, rfl⟩, fun j => ?_⟩
  · have h3 := h1 j (Finset.mem_univ _)
    rw [h2] at h3
    exact EReal.coe_le_coe_iff.1 h3
  · refine (subf_apply ..).trans ((congrArg₂ (fun a b : EReal => a - b) (hl b j) ?_).trans (EReal.coe_sub _ _).symm)
    refine (column _ b j).trans ((asColumn _ b).trans ((maximumf_apply ..).trans ?_))
    refine (congrArg₂ (max : EReal → EReal → EReal) ((broadcastInDim_scalar_apply _ _ _).trans Reductions.ofBits_bot) (e.trans h2)).trans ?_
    exact bot_sup_eq _

/-- The log-softmax of shifted logits, entry by entry. -/
theorem normalized_apply (l : Vec Ideal S64x4097 .f32) (b : Fin 64) (L : Fin 4097 → ℝ) (M : ℝ) (hl : ∀ j, l (ix2 b j) = ((L j - M : ℝ) : EReal))
    (j : Fin 4097) : normalized l (ix2 b j) = ((L j - M - KernelRow.logSum L M : ℝ) : EReal) := by
  have hr : S64x4097.Reduces [1] S64 := by decide
  refine (subf_apply ..).trans ((congrArg₂ (fun a b : EReal => a - b) (hl j) ?_).trans (EReal.coe_sub _ _).symm)
  refine (column _ b j).trans ?_
  have e : (Host.reduceAdd (Host.exp l) (constant S_ .f32 0x00000000#32) reducesTo_S64x4097_S64_d1 h_S_ : FVec Ideal S64 .f32) (ix1 b)
      = ((∑ k : Fin 4097, Real.exp (L k - M) : ℝ) : EReal) := by
    refine (hostReduceAdd_apply ..).trans ((Ideal.hostReduceAdd_single reducesTo_S64x4097_S64_d1 hr _ _ (ix1 b)).trans ?_)
    have e2 : (constant S_ .f32 0x00000000#32 : FVec Ideal S_ .f32) (Shape.Idx.first h_S_) = (0 : EReal) := Ideal.ofBits_zero_f32
    refine (congrArg₂ (fun a b : EReal => a + b) e2 ?_).trans (zero_add _)
    refine Eq.trans (Finset.sum_congr rfl fun k _ => ?_) (FirstMax.coe_sum _ _).symm
    rw [lift_row hr b k]
    show Ideal.exp (l (ix2 b k)) = _
    rw [hl k, Ideal.exp_coe]
  refine (congrArg Ideal.log ((asColumn _ b).trans e)).trans ?_
  rw [Ideal.log_coe, if_neg (not_le.2 (FirstMax.sum_exp_pos (by norm_num) L M))]
  rfl

end Cert.RefLogits

end
-- ==== Proof.RefChoice.lean ====
/- The reference's arg-max and its selection of one entry of every row, entry by entry. -/
module

public import proofs.«01_k».proof.Proof.FirstMax
public import proofs.«01_k».proof.Proof.Reductions
public import proofs.«01_k».proof.Proof.KernelRow
public import proofs.«01_k».proof.Proof.RefRead
public import Idealize.ShloMosaic.Lib.WordCmp
public import Idealize.ShloMosaic.Lib.IdealHost
public import Idealize.ShloMosaic.Lib.Pipeline.Value

@[expose] public section

set_option maxRecDepth 16384

noncomputable section

open Idealize.ShloMosaic

namespace Cert.RefChoice

open Cert.ReferenceIdeal Cert.ReferenceIdeal.Gen Idealize.ShloMosaic.ValueIdx
open Cert.RefRead Cert.FirstMax

/-- A pair is above another: its value is greater, or equal with a number no greater. -/
def Above (a b : EReal × BitVec 32) : Prop := b.1 < a.1 ∨ (a.1 = b.1 ∧ a.2.toInt ≤ b.2.toInt)

theorem Above.refl (a : EReal × BitVec 32) : Above a a := Or.inr ⟨rfl, le_rfl⟩

theorem Above.trans {a b c : EReal × BitVec 32} (h : Above a b) (h' : Above b c) : Above a c := by
  rcases h with h | ⟨h1, h2⟩ <;> rcases h' with h' | ⟨h1', h2'⟩
  · exact Or.inl (h'.trans h)
  · exact Or.inl (h1' ▸ h)
  · exact Or.inl (h1 ▸ h')
  · exact Or.inr ⟨h1.trans h1', h2.trans h2'⟩

/-- The reducer keeps the pair with the greater value, of equal values the one with the smaller number. -/
theorem reducer_eq (a b : EReal × BitVec 32) : (reducer_argmax_f32_i32 (F := Ideal) a b : EReal × BitVec 32)
    = if b.1 < a.1 ∨ (a.1 = b.1 ∧ a.2.toInt < b.2.toInt) then a else b := by
  obtain ⟨x, i⟩ := a
  obtain ⟨y, k⟩ := b
  unfold reducer_argmax_f32_i32
  simp only [Ideal.cmpf_def, Ideal.cmp, WordCmp.cmpi_slt_eq, WordCmp.andi_ofBool, WordCmp.ori_ofBool, WordCmp.select_ofBool]
  rcases lt_trichotomy x y with h | h | h
  · have h1 : ¬ y < x := not_lt.2 h.le
    have h2 : ¬ x = y := h.ne
    simp [h1, h2]
  · subst h
    by_cases h3 : i.toInt < k.toInt <;> simp [h3]
  · simp [h]

/-- The reducer returns one of its arguments, and is above both. -/
theorem reducer_pick (a b : EReal × BitVec 32) :
    Above (reducer_argmax_f32_i32 (F := Ideal) a b) a ∧ Above (reducer_argmax_f32_i32 (F := Ideal) a b) b
      ∧ (reducer_argmax_f32_i32 (F := Ideal) a b = a ∨ reducer_argmax_f32_i32 (F := Ideal) a b = b) := by
  rw [reducer_eq]
  by_cases h : b.1 < a.1 ∨ (a.1 = b.1 ∧ a.2.toInt < b.2.toInt)
  · rw [if_pos h]
    refine ⟨Above.refl a, ?_, Or.inl rfl⟩
    rcases h with h | ⟨h1, h2⟩
    · exact Or.inl h
    · exact Or.inr ⟨h1, h2.le⟩
  · rw [if_neg h]
    refine ⟨?_, Above.refl b, Or.inr rfl⟩
    rw [not_or, not_and, not_lt, not_lt] at h
    rcases lt_or_eq_of_le h.1 with h1 | h1
    · exact Or.inl h1
    · exact Or.inr ⟨h1.symm, h.2 h1⟩

/-- The pairs of a row: its entries, each with its number. -/
theorem mem_fiber (p : Vec Ideal S64x4097 .f32) (b : Fin 64) (q : EReal × BitVec 32) :
    q ∈ Host.argReduceFiber p (iotaInDim S64x4097 32 1) reducesTo_S64x4097_S64_d1 (ix1 b)
      ↔ ∃ j : Fin 4097, q = (p (ix2 b j), BitVec.ofNat 32 j.val) := by
  have hr : S64x4097.Reduces [1] S64 := by decide
  have hd := Shape.ReducesTo.drop_eq_drop reducesTo_S64x4097_S64_d1 hr
  unfold Host.argReduceFiber
  rw [List.mem_map]
  constructor
  · rintro ⟨n, hn, rfl⟩
    rw [List.mem_filter, hd] at hn
    have hn2 := of_decide_eq_true hn.2
    have e : S64x4097.rowMajor.symm n = ix2 b (S64x4097.rowMajor.symm n 1) := by
      have h1 := hr.lift_drop (S64x4097.rowMajor.symm n)
      rw [hn2] at h1
      exact h1.symm.trans (by
        funext c; apply Fin.ext
        match c with
        | ⟨0, _⟩ => rfl
        | ⟨1, _⟩ => rfl)
    exact ⟨S64x4097.rowMajor.symm n 1, Prod.ext (congrArg p e) rfl⟩
  · rintro ⟨j, rfl⟩
    refine ⟨S64x4097.rowMajor (ix2 b j), List.mem_filter.2 ⟨List.mem_finRange _, ?_⟩, ?_⟩
    · rw [Equiv.symm_apply_apply, hd]
      refine decide_eq_true ?_
      have h2 : hr.lift (ix1 b) j = ix2 b j := by
        funext c; apply Fin.ext
        match c with
        | ⟨0, _⟩ => rfl
        | ⟨1, _⟩ => rfl
      rw [← h2]
      exact hr.drop_lift (ix1 b) j
    · rw [Equiv.symm_apply_apply]
      rfl

/-- In every row the arg-max is the place of the first greatest entry. -/
theorem choice_apply (p : Vec Ideal S64x4097 .f32) (b : Fin 64) :
    ∃ k : Fin 4097, IsFirstMax (fun j : Fin 4097 => (p (ix2 b j) : EReal)) k ∧ choice p (ix1 b) = BitVec.ofNat 32 k.val := by
  have e : choice p (ix1 b) = ((Host.argReduceFiber p (iotaInDim S64x4097 32 1) reducesTo_S64x4097_S64_d1 (ix1 b)).foldl
      (reducer_argmax_f32_i32 (F := Ideal)) ((⊥ : EReal), 0#32)).2 := by
    unfold choice
    rw [Ideal.argReduce_eq_reduce2, Host.reduce2_eq_foldl_fiber]
    have e2 : (constant S_ .f32 0xFF800000#32 : FVec Ideal S_ .f32) (Shape.Idx.first h_S_) = (⊥ : EReal) := Reductions.ofBits_bot
    rw [e2]
    rfl
  obtain ⟨h1, h2, h3⟩ := foldl_pick Above (reducer_argmax_f32_i32 (F := Ideal)) Above.refl (fun _ _ _ => Above.trans)
    (fun a b => (reducer_pick a b).1) (fun a b => (reducer_pick a b).2.1) (fun a b => (reducer_pick a b).2.2)
    (Host.argReduceFiber p (iotaInDim S64x4097 32 1) reducesTo_S64x4097_S64_d1 (ix1 b)) ((⊥ : EReal), 0#32)
  rw [e]
  rcases h3 with h3 | h3
  · rw [h3] at h2 ⊢
    have hb : ∀ j : Fin 4097, (p (ix2 b j) : EReal) = ⊥ := fun j => by
      rcases h2 _ ((mem_fiber p b _).2 ⟨j, rfl⟩) with h | ⟨h, -⟩
      · exact absurd h (not_lt_bot)
      · exact h.symm
    exact ⟨0, ⟨fun j => le_of_eq ((hb j).trans (hb 0).symm), fun j hj => absurd hj (Nat.not_lt_zero _)⟩, rfl⟩
  · obtain ⟨k, hk⟩ := (mem_fiber p b _).1 h3
    rw [hk] at h2 ⊢
    refine ⟨k, ⟨fun j => ?_, fun j hj => ?_⟩, rfl⟩
    · rcases h2 _ ((mem_fiber p b _).2 ⟨j, rfl⟩) with h | ⟨h, -⟩
      · exact h.le
      · exact h.symm.le
    · rcases h2 _ ((mem_fiber p b _).2 ⟨j, rfl⟩) with h | ⟨-, h⟩
      · exact h
      · have h4 : (BitVec.ofNat 32 k.val).toInt ≤ (BitVec.ofNat 32 j.val).toInt := h
        rw [KernelRow.toInt_small k.isLt, KernelRow.toInt_small j.isLt] at h4
        exact absurd (Fin.lt_def.1 hj) (by omega)

/-- A number of a place in the row is that place. -/
theorem place_apply (i : Vec Ideal S64x1 .i32) (b : Fin 64) (k : Fin 4097) (hi : i (ix2 b (0 : Fin 1)) = BitVec.ofNat 32 k.val) :
    place (F := Ideal) i (ix3 b (0 : Fin 1) (0 : Fin 1)) = BitVec.ofNat 32 k.val := by
  refine (shapeCast_apply _ _ _ (ix2 b (0 : Fin 1)) ?_).trans ?_
  · simp [Shape.rowMajor_val_two, Shape.rowMajor_val_three]
  · show Scalar.select (IntOp.cmpi .slt (i (ix2 b (0 : Fin 1))) 0#32) _ (i (ix2 b (0 : Fin 1))) = _
    have h := k.isLt
    rw [hi, WordCmp.cmpi_slt_eq, KernelRow.toInt_small k.isLt, decide_eq_false (by simp)]
    rfl

/-- Such a place is inside the row. -/
theorem inside_apply (i : Vec Ideal S64x1x1 .i32) (b : Fin 64) (k : Fin 4097) (hi : i (ix3 b (0 : Fin 1) (0 : Fin 1)) = BitVec.ofNat 32 k.val) :
    inside (F := Ideal) i (ix2 b (0 : Fin 1)) = 1#1 := by
  have hr : S64x1x1.Reduces [2] S64x1 := by decide
  have h := k.isLt
  refine (Host.reduce_eq_fold_single IntOp.andi _ _ reducesTo_S64x1x1_S64x1_d2 hr h_S_ (ix2 b (0 : Fin 1))).trans ?_
  have hl : ∀ z : Fin 1, hr.lift (ix2 b (0 : Fin 1)) z = ix3 b (0 : Fin 1) (0 : Fin 1) := fun z => by
    funext c; apply Fin.ext
    match c with
    | ⟨0, _⟩ => rfl
    | ⟨1, _⟩ => rfl
    | ⟨2, _⟩ => exact congrArg Fin.val (Subsingleton.elim z 0)
  have hx : IntOp.andi (IntOp.cmpi .sge (i (ix3 b (0 : Fin 1) (0 : Fin 1))) 0#32) (IntOp.cmpi .sle (i (ix3 b (0 : Fin 1) (0 : Fin 1))) 4096#32) = 1#1 := by
    rw [hi, WordCmp.cmpi_sge_eq, WordCmp.cmpi_sle_eq, KernelRow.toInt_small k.isLt, decide_eq_true (by simp),
      decide_eq_true (by show (k.val : Int) ≤ 4096; omega)]
    rfl
  refine (Finset.fold_congr (g := fun _ : Fin 1 => 1#1) fun z _ => ?_).trans rfl
  exact (congrArg (andi (cmpi .sge i _) (cmpi .sle i _)) (hl z)).trans hx

/-- The entry gathered at such a place. -/
theorem gather_apply (l : Vec Ideal S64x4097 .f32) (i : Vec Ideal S64x1x1 .i32) (b : Fin 64) (k : Fin 4097)
    (hi : i (ix3 b (0 : Fin 1) (0 : Fin 1)) = BitVec.ofNat 32 k.val) :
    Host.gather gather_S64x4097_S64x1x1_S64x1_n_1_0_0_1_2_11 l i (ix2 b (0 : Fin 1)) = l (ix2 b k) := by
  unfold Host.gather
  refine congrArg l (funext fun a => Fin.ext ?_)
  show gather_S64x4097_S64x1x1_S64x1_n_1_0_0_1_2_11.start (ix2 b (0 : Fin 1)) i a + gather_S64x4097_S64x1x1_S64x1_n_1_0_0_1_2_11.batchCoord (ix2 b (0 : Fin 1)) a
      + gather_S64x4097_S64x1x1_S64x1_n_1_0_0_1_2_11.offCoord (ix2 b (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x4097_S64x1x1_S64x1_n_1_0_0_1_2_11.operandBatchingDims from List.mem_singleton.mpr rfl)]
    rfl
  · rw [GatherDims.batchCoord_eq_zero _ _ _ (fun h => by simp [gather_S64x4097_S64x1x1_S64x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x4097_S64x1x1_S64x1_n_1_0_0_1_2_11.startIndexMap from List.mem_singleton.mpr rfl)]
    have hsi : gather_S64x4097_S64x1x1_S64x1_n_1_0_0_1_2_11.siIdx (ix2 b (0 : Fin 1)) ⟨List.idxOf (1 : Fin 2) gather_S64x4097_S64x1x1_S64x1_n_1_0_0_1_2_11.startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi, hi, KernelRow.toInt_small k.isLt]
    have h := k.isLt
    show min (k.val : Int).toNat 4096 = k.val
    omega

/-- The entry taken at such a place of a row is the row's entry there. -/
theorem taken_apply (l : Vec Ideal S64x4097 .f32) (i : Vec Ideal S64x1 .i32) (b : Fin 64) (k : Fin 4097)
    (hi : i (ix2 b (0 : Fin 1)) = BitVec.ofNat 32 k.val) : taken l (place (F := Ideal) i) (ix2 b (0 : Fin 1)) = l (ix2 b k) := by
  have hp := place_apply i b k hi
  refine (WordCmp.select_of_eq_one (inside_apply _ b k hp) _ _).trans ?_
  exact gather_apply l _ b k hp

end Cert.RefChoice

end
-- ==== Proof.RefValue.lean ====
/- What the reference's run leaves, and its two results of every row in terms of the five arguments and the noise. -/
module

public import proofs.«01_k».proof.Proof.RefLogits
public import proofs.«01_k».proof.Proof.RefChoice

@[expose] public section

set_option maxRecDepth 16384

noncomputable section

open Idealize.ShloMosaic Idealize.ShloMosaic.TcCoe Idealize.SL.Sem Idealize.ShloMosaic.StableHlo

namespace Cert.RefValue

open Cert.ReferenceIdeal Cert.ReferenceIdeal.Gen Idealize.ShloMosaic.ValueIdx
open Cert.RefRun Cert.RefRead Cert.RefLogits Cert.RefChoice Cert.FirstMax Cert.Gumbel Cert.Logits Cert.KernelRow

section stages
variable {F : FTy → Type} [FloatOps F]

/-- Nine lists in a row, the fifth of two parts, split at every list before the last three. -/
theorem split_nine (a b c d l s e f g h : List (HloOp τ sig (Elt F))) (V : Valuation τ sig (Elt F)) :
    after (List.flatten [a, b, c, d, l ++ s, e, f, g, h]) V
      = after (f ++ (g ++ h)) (after e (after s (after l (after d (after c (after b (after a V))))))) := by
  simp only [List.flatten_cons, List.flatten_nil, List.append_nil, after_append]

/-- The contents once the log-softmax is computed. -/
def scored (V : Valuation τ sig (Elt F)) : Valuation τ sig (Elt F) := after ops1 (after ops0 V)

/-- The contents once the noise is drawn. -/
def drawn (V : Valuation τ sig (Elt F)) : Valuation τ sig (Elt F) := after refLogOps (after ops3 (after ops2 (scored V)))

/-- The noise. -/
def noise (V : Valuation τ sig (Elt F)) : Vec F S64x4097 .f32 := drawn V (Proc.devRef .tc main_v21)

/-- The log-softmax. -/
def scores (V : Valuation τ sig (Elt F)) : Vec F S64x4097 .f32 := scored V (Proc.devRef .tc main_v9)

/-- The contents at the end: the operations after the noise, on the contents once it is drawn. -/
theorem final (V : Valuation τ sig (Elt F)) : after ops V = after (ops6 ++ (ops7 ++ ops8)) (after ops5 (after refSumOps (drawn V))) := by
  have h : after ops V = after (List.flatten [ops0, ops1, ops2, ops3, refLogOps ++ refSumOps, ops5, ops6, ops7, ops8]) V := by
    rw [← refLogOps_eq]
  exact h.trans (split_nine ops0 ops1 ops2 ops3 refLogOps refSumOps ops5 ops6 ops7 ops8 V)

/-- The log-softmax is that of the logits of the five arguments. -/
theorem scores_eq (V : Valuation τ sig (Elt F)) : scores V = normalized (shifted (logits (V (Proc.devRef .tc main_arg0)) (V (Proc.devRef .tc main_arg1))
    (V (Proc.devRef .tc main_arg2)) (V (Proc.devRef .tc main_arg3)) (V (Proc.devRef .tc main_arg4)))) :=
  (read_lp (after ops0 V)).trans (congrArg (fun l => normalized (shifted l)) (read_logits V))

/-- The log-softmax is still there once the noise is drawn. -/
theorem drawn_scores (V : Valuation τ sig (Elt F)) : (drawn V (Proc.devRef .tc main_v9) : Vec F S64x4097 .f32) = scores V :=
  keep_lp_noise (scored V)

/-- The numbers chosen. -/
def chosen (V : Valuation τ sig (Elt F)) : Vec F S64 .i32 := choice (addf (scores V) (noise V))

/-- The numbers chosen, where they are written. -/
theorem choice_eq (V : Valuation τ sig (Elt F)) : (after ops5 (after refSumOps (drawn V)) (Proc.devRef .tc main_v23) : Vec F S64 .i32) = chosen V := by
  refine (read_choice _).trans (congrArg choice ((read_sum _).trans ?_))
  exact congrArg (fun l : Vec F S64x4097 .f32 => addf l (noise V)) (drawn_scores V)

/-- The second result: the numbers chosen. -/
theorem second (V : Valuation τ sig (Elt F)) : (after ops V (Proc.devRef .tc main_v23) : Vec F S64 .i32) = chosen V := by
  rw [final]
  exact (keep_choice _).trans (choice_eq V)

/-- The entries of every row at given places. -/
def pick (l : Vec F S64x4097 .f32) (i : Vec F S64 .i32) : Vec F S64 .f32 :=
  shapeCast S64 (taken l (place (F := F) (broadcastInDim S64x1 ![0] bcast_S64_S64x1_0 i))) shapeCasts_S64x1_S64

/-- The last operations pick the entries of the log-softmax at the numbers chosen. -/
theorem read_pick (W : Valuation τ sig (Elt F)) : (after (ops6 ++ (ops7 ++ ops8)) W (Proc.devRef .tc main_v26) : Vec F S64 .f32)
    = pick (W (Proc.devRef .tc main_v9)) (W (Proc.devRef .tc main_v23)) :=
  read_taken W

/-- The first result: the entries of the log-softmax at the numbers chosen. -/
theorem first (V : Valuation τ sig (Elt F)) : (after ops V (Proc.devRef .tc main_v26) : Vec F S64 .f32) = pick (scores V) (chosen V) := by
  have h1 : (after ops5 (after refSumOps (drawn V)) (Proc.devRef .tc main_v9) : Vec F S64x4097 .f32) = scores V :=
    (keep_lp_choice (drawn V)).trans (drawn_scores V)
  have h2 := read_pick (after ops5 (after refSumOps (drawn V)))
  rw [h1, choice_eq V] at h2
  rw [final]
  exact h2

end stages

/-- The two results of a row: the place of the first greatest entry of logits plus noise, and the log-softmax there. -/
theorem result {R : Inputs} (V : Valuation τ sig (Elt Ideal))
    (h : R.Holds (V (Proc.devRef .tc main_arg0)) (V (Proc.devRef .tc main_arg1)) (V (Proc.devRef .tc main_arg2))
      (V (Proc.devRef .tc main_arg3)) (V (Proc.devRef .tc main_arg4))) (b : Fin 64) :
    ∃ (k : Fin 4097) (M : ℝ), IsFirstMax (fun j : Fin 4097 => ((R.logit b j : ℝ) : EReal) + noise V (ix2 b j)) k ∧ IsMax (R.logit b) M
      ∧ (after ops V (Proc.devRef .tc main_v26) : Vec Ideal S64 .f32) (ix1 b) = ((R.logit b k - M - logSum (R.logit b) M : ℝ) : EReal)
      ∧ (after ops V (Proc.devRef .tc main_v23) : Vec Ideal S64 .i32) (ix1 b) = BitVec.ofNat 32 k.val := by
  obtain ⟨M, hM, hs⟩ := shifted_apply (logits (V (Proc.devRef .tc main_arg0)) (V (Proc.devRef .tc main_arg1)) (V (Proc.devRef .tc main_arg2))
    (V (Proc.devRef .tc main_arg3)) (V (Proc.devRef .tc main_arg4))) R.logit (fun b j => logits_apply h b j) b
  have hp : ∀ j, scores V (ix2 b j) = ((R.logit b j - M - logSum (R.logit b) M : ℝ) : EReal) := fun j =>
    (congrFun (scores_eq V) _).trans (normalized_apply _ b (R.logit b) M hs j)
  obtain ⟨k, hk, hc⟩ := choice_apply (addf (scores V) (noise V)) b
  refine ⟨k, M, ?_, hM, ?_, ?_⟩
  · refine IsFirstMax.of_shift (-(M + logSum (R.logit b) M)) (fun j => ?_) hk
    refine (addf_apply ..).trans ((congrArg (fun z : EReal => z + noise V (ix2 b j)) (hp j)).trans ?_)
    rw [EReal.coe_sub, EReal.coe_sub]
    exact sub_sub_add _ _ _ _
  · refine (congrFun (first V) _).trans ((shapeCast_apply _ _ _ (ix2 b (0 : Fin 1)) ?_).trans ?_)
    · simp [Shape.rowMajor_val_one, Shape.rowMajor_val_two]
    · exact (taken_apply (scores V) _ b k ((asColumn _ b).trans hc)).trans (hp k)
  · exact (congrFun (second V) _).trans hc

end Cert.RefValue

end
-- ==== Proof.Finite.lean ====
/- The precondition read entry by entry: five finite arguments are five arrays of reals. -/
module

public import proofs.«01_k».proof.Pre_finite
public import proofs.«01_k».proof.Proof.Gen.Pre_finite
public import proofs.«01_k».proof.Proof.Logits
public import proofs.«01_k».proof.Proof.Reductions
public import Idealize.ShloMosaic.Lib.ReduceAll
public import Idealize.ShloMosaic.Lib.WordCmp
public import Idealize.ShloMosaic.Lib.IdealHost

@[expose] public section

set_option maxRecDepth 16384

noncomputable section

open Idealize.ShloMosaic

namespace Cert.Finite

open Cert.Pre_finite Cert.Pre_finite.Gen Idealize.ShloMosaic.ValueIdx Cert.Logits

/-- The pattern of infinity is the greatest extended real. -/
theorem ofBits_top : Ideal.ofBits .f32 0x7F800000#32 = (⊤ : EReal) := by
  simp [Ideal.ofBits, Ideal.ieee]

/-- An extended real whose absolute value is less than infinity is a real. -/
theorem real_of_abs (x : EReal) (h : max x (-x) < ⊤) : x = ((x.toReal : ℝ) : EReal) := by
  refine (EReal.coe_toReal (fun e => ?_) (fun e => ?_)).symm
  · subst e; simp at h
  · subst e; simp at h

/-- The test of an array's entries passes only where the entry is a real. -/
theorem entry_real {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) :
    (x i : EReal) = (((x i : EReal).toReal : ℝ) : EReal) := by
  have h1 : BitVec.ofBool (decide (max (x i : EReal) (-(x i : EReal)) < Ideal.ofBits .f32 0x7F800000#32)) = 1#1 := by
    refine Eq.trans ?_ h
    have e : (broadcastInDim S ![] hb (constant S_ .f32 0x7F800000#32 : FVec Ideal S_ .f32) i : EReal) = Ideal.ofBits .f32 0x7F800000#32 :=
      broadcastInDim_scalar_apply _ _ _
    rw [← e]
    rfl
  rw [ofBits_top] at h1
  exact real_of_abs _ ((WordCmp.ofBool_decide_eq_one_iff _).1 h1)

/-- The whole test passes only if every test of an array does. -/
theorem five {a b c d e : BitVec 1} (h : IntOp.andi (IntOp.andi (IntOp.andi (IntOp.andi a b) c) d) e = 1#1) :
    a = 1#1 ∧ b = 1#1 ∧ c = 1#1 ∧ d = 1#1 ∧ e = 1#1 := by
  simp only [IntOp.andi_eq_one] at h
  tauto

instance : Subsingleton S_.Idx := ⟨fun x y => funext fun a => a.elim0⟩

/-- Five arrays the precondition holds of are arrays of reals. -/
theorem holds (a0 : FVec Ideal S64x1024 .f32) (a1 : FVec Ideal S64x4096x128 .f32) (a2 : FVec Ideal S1024x128 .f32)
    (a3 : FVec Ideal S1024x1 .f32) (a4 : FVec Ideal S1 .f32) (h : Cert.Pre_finite.fn (F := Ideal) a0 a1 a2 a3 a4 = fun _ => 1#1) :
    ∃ R : Inputs, R.Holds a0 a1 a2 a3 a4 := by
  obtain ⟨h0, h1, h2, h3, h4⟩ := five (congrFun h (fun a => a.elim0))
  refine ⟨⟨fun i d => (a0 (ix2 i d) : EReal).toReal, fun i j k => (a1 (ix3 i j k) : EReal).toReal, fun d k => (a2 (ix2 d k) : EReal).toReal,
    fun d => (a3 (ix2 d (0 : Fin 1)) : EReal).toReal, (a4 (ix1 (0 : Fin 1)) : EReal).toReal⟩, ⟨?_, ?_, ?_, ?_, ?_⟩⟩
  · exact fun i d => entry_real a0 bcast_S_S64x1024 _ (Host.reduce_andi_all _ _ _ _ _ h0 _)
  · exact fun i j k => entry_real a1 bcast_S_S64x4096x128 _ (Host.reduce_andi_all _ _ _ _ _ h1 _)
  · exact fun d k => entry_real a2 bcast_S_S1024x128 _ (Host.reduce_andi_all _ _ _ _ _ h2 _)
  · exact fun d => entry_real a3 bcast_S_S1024x1 _ (Host.reduce_andi_all _ _ _ _ _ h3 _)
  · exact entry_real a4 bcast_S_S1 _ (Host.reduce_andi_all _ _ _ _ _ h4 _)

end Cert.Finite

end
-- ==== Proof.Equation.lean ====
/- The two programs compute the same two arrays, from finite arguments. -/
module

public import proofs.«01_k».proof.Defs
public import proofs.«01_k».proof.Proof.KernelValue
public import proofs.«01_k».proof.Proof.KernelRun
public import proofs.«01_k».proof.Proof.RefValue
public import proofs.«01_k».proof.Proof.Finite

@[expose] public section

set_option maxRecDepth 16384

noncomputable section

open Idealize.ShloMosaic hiding ix0 ix1 ix2 ix3 ix4 ix5
open Idealize.ShloMosaic.TcCoe Idealize.SL.Sem Idealize.ShloMosaic.StableHlo

namespace Cert.Equation

open Idealize.ShloMosaic.ValueIdx

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal))

/-- Both programs draw the same noise. -/
theorem noise (c : Dev Cert.KernelIdeal.nD) (b : Fin 64) (j : Fin 4097) :
    Cert.KernelValue.rowNoise m c b j = (Cert.RefValue.noise V (ix2 b j) : EReal) :=
  congrFun (Cert.Gumbel.noise_eq (fun b => m (c, b)) (Cert.RefValue.scored V)) (ix2 b j)

/-- An index of a vector of 64 is a number below 64. -/
theorem idx_eq (i : (⟨1, ![64]⟩ : Shape).Idx) : i = ix1 (i 0) := by
  funext a
  match a with
  | ⟨0, _⟩ => rfl

/-- The two results of the two programs in one row are equal. -/
theorem row {R : Cert.Logits.Inputs} (c : Dev Cert.KernelIdeal.nD) (hk : Cert.KernelValue.Holds m c R)
    (hr : R.Holds (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3))
      (V (Proc.devRef .tc Cert.ReferenceIdeal.main_arg4))) (b : Fin 64) :
    (after Cert.RefRun.ops V (Proc.devRef .tc Cert.ReferenceIdeal.main_v26) : Vec Ideal Cert.ReferenceIdeal.S64 .f32) (ix1 b)
        = Cert.KernelArrays.logp m c (ix3 b (0 : Fin 1) (0 : Fin 128))
      ∧ (after Cert.RefRun.ops V (Proc.devRef .tc Cert.ReferenceIdeal.main_v23) : Vec Ideal Cert.ReferenceIdeal.S64 .i32) (ix1 b)
        = Cert.KernelArrays.action m c (ix3 b (0 : Fin 1) (0 : Fin 128)) := by
  obtain ⟨k, M, h1, h2, h3, h4⟩ := Cert.KernelValue.result hk b
  obtain ⟨k', M', h1', h2', h3', h4'⟩ := Cert.RefValue.result V hr b
  have hM : M' = M := Cert.KernelRow.IsMax.unique h2' h2
  have hn : (fun j : Fin 4097 => ((R.logit b j : ℝ) : EReal) + (Cert.RefValue.noise V (ix2 b j) : EReal))
      = fun j => ((R.logit b j : ℝ) : EReal) + Cert.KernelValue.rowNoise m c b j := funext fun j => by rw [noise m V c b j]
  rw [hn] at h1'
  have hkk : k' = k := Cert.FirstMax.IsFirstMax.unique h1' h1
  subst hM hkk
  refine ⟨h3'.trans (Eq.trans ?_ h3.symm), h4'.trans h4.symm⟩
  rw [sub_sub]

/-- The reference's first result is the kernel's. -/
theorem first {R : Cert.Logits.Inputs} (c : Dev Cert.KernelIdeal.nD) (hk : Cert.KernelValue.Holds m c R)
    (hr : R.Holds (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3))
      (V (Proc.devRef .tc Cert.ReferenceIdeal.main_arg4))) :
    (after Cert.RefRun.ops V (Proc.devRef .tc Cert.ReferenceIdeal.main_v26) : Vec Ideal Cert.ReferenceIdeal.S64 .f32)
      = (Cert.KernelRun.logps m c : Vec Ideal Cert.KernelIdeal.S64 .f32) := by
  funext i
  rw [idx_eq i]
  exact (row m V c hk hr (i 0)).1.trans (Cert.KernelRun.logps_apply m c (i 0)).symm

/-- The reference's second result is the kernel's. -/
theorem second {R : Cert.Logits.Inputs} (c : Dev Cert.KernelIdeal.nD) (hk : Cert.KernelValue.Holds m c R)
    (hr : R.Holds (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3))
      (V (Proc.devRef .tc Cert.ReferenceIdeal.main_arg4))) :
    (after Cert.RefRun.ops V (Proc.devRef .tc Cert.ReferenceIdeal.main_v23) : Vec Ideal Cert.ReferenceIdeal.S64 .i32)
      = (Cert.KernelRun.actions m c : Vec Ideal Cert.KernelIdeal.S64 .i32) := by
  funext i
  rw [idx_eq i]
  exact (row m V c hk hr (i 0)).2.trans (Cert.KernelRun.actions_apply m c (i 0)).symm

/-- From finite arguments the two programs end with equal results and their arguments unchanged. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨Cert.KernelRun.logps m, Cert.KernelRun.actions m, Cert.KernelRun.run m g, ?_⟩
  refine θ_run_mono (θ_run_and (Cert.RefRun.run_main m' g') (Cert.RefRun.frame m' g')) fun r h c => ?_
  obtain ⟨R, hk⟩ := Cert.Finite.holds _ _ _ _ _ (hpre c)
  obtain ⟨e0, e1, e2, e3, e4⟩ := hargs c
  have hr : R.Holds (launchContents m' c (Proc.devRef .tc Cert.ReferenceIdeal.main_arg0)) (launchContents m' c (Proc.devRef .tc Cert.ReferenceIdeal.main_arg1))
      (launchContents m' c (Proc.devRef .tc Cert.ReferenceIdeal.main_arg2)) (launchContents m' c (Proc.devRef .tc Cert.ReferenceIdeal.main_arg3))
      (launchContents m' c (Proc.devRef .tc Cert.ReferenceIdeal.main_arg4)) := by
    constructor
    · exact fun i d => (congrFun e0 (ix2 i d)).trans (hk.x i d)
    · exact fun i j k => (congrFun e1 (ix3 i j k)).trans (hk.e i j k)
    · exact fun d k => (congrFun e2 (ix2 d k)).trans (hk.w d k)
    · exact fun d => (congrFun e3 (ix2 d (0 : Fin 1))).trans (hk.s d)
    · exact (congrFun e4 (ix1 (0 : Fin 1))).trans hk.b
  exact ⟨(h.1 c _).trans (first m _ c hk hr), (h.1 c _).trans (second m _ c hk hr), h.2.1 c⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel (hKernel := Cert.Kernel.Gen.facts) :=
  fun m ρ _ => Cert.Kernel.Gen.frame m ρ

/-- The idealized kernel's frame. -/
theorem frame_kernelIdeal : Cert.quiescent_KernelIdeal (hKernelIdeal := Cert.KernelIdeal.Gen.facts) :=
  fun m ρ _ => Cert.KernelIdeal.Gen.frame m ρ

/-- The idealized reference's frame. -/
theorem frame_referenceIdeal : Cert.quiescent_ReferenceIdeal (hReferenceIdeal := Cert.ReferenceIdeal.Gen.facts) :=
  fun m ρ _ => Cert.RefRun.frame m ρ

/-- The idealized kernel's frame, the precondition added. -/
theorem frame_kernelIdeal_finite : Cert.quiescent_KernelIdeal_pre_finite (hKernelIdeal := Cert.KernelIdeal.Gen.facts)
    (hPre_finite := Cert.Pre_finite.Gen.facts) :=
  fun m ρ _ => Cert.KernelIdeal.Gen.frame m ρ

/-- The idealized reference's frame, the precondition added. -/
theorem frame_referenceIdeal_finite : Cert.quiescent_ReferenceIdeal_pre_finite (hReferenceIdeal := Cert.ReferenceIdeal.Gen.facts)
    (hPre_finite := Cert.Pre_finite.Gen.facts) :=
  fun m ρ _ => Cert.RefRun.frame m ρ

/-- Every claim. -/
theorem claim : Cert.Claim := ⟨Cert.Kernel.Gen.facts, Cert.KernelIdeal.Gen.facts, Cert.ReferenceIdeal.Gen.facts, Cert.Pre_finite.Gen.facts,
  frame_kernel, frame_kernelIdeal, frame_kernelIdeal_finite, frame_referenceIdeal, frame_referenceIdeal_finite, trivial, Cert.Equation.equal⟩

end Cert.Proof

end
